-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_alpha_descends [hPre_alpha_descends : Cert.Pre_alpha_descends.Facts] (m : (ℓ : Loc Cert.KernelIdeal.nD Cert.KernelIdeal.τ Cert.KernelIdeal.sig) → Buf (Elt Ideal) ℓ) : Prop :=
  ∀ c : Dev Cert.KernelIdeal.nD,
    (Cert.Pre_alpha_descends.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_alpha_descends [hPre_alpha_descends : Cert.Pre_alpha_descends.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_alpha_descends.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_alpha_descends [hKernelIdeal : Cert.KernelIdeal.Facts] [hPre_alpha_descends : Cert.Pre_alpha_descends.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_alpha_descends m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_alpha_descends [hReferenceIdeal : Cert.ReferenceIdeal.Facts] [hPre_alpha_descends : Cert.Pre_alpha_descends.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_alpha_descends m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_l" .f32 0x42C80000#32 ((536870912 / 5368709 : ℝ) : EReal)

def algebraic_KernelIdeal_ReferenceIdeal_pre_alpha_descends [hKernelIdeal : Cert.KernelIdeal.Facts] [hReferenceIdeal : Cert.ReferenceIdeal.Facts] [hPre_alpha_descends : Cert.Pre_alpha_descends.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_alpha_descends m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_alpha_descends : Cert.Pre_alpha_descends.Facts),
    quiescent_Kernel (hKernel := hKernel)
    ∧ quiescent_KernelIdeal (hKernelIdeal := hKernelIdeal)
    ∧ quiescent_KernelIdeal_pre_alpha_descends (hKernelIdeal := hKernelIdeal) (hPre_alpha_descends := hPre_alpha_descends)
    ∧ quiescent_ReferenceIdeal (hReferenceIdeal := hReferenceIdeal)
    ∧ quiescent_ReferenceIdeal_pre_alpha_descends (hReferenceIdeal := hReferenceIdeal) (hPre_alpha_descends := hPre_alpha_descends)
    ∧ preserves_Kernel_KernelIdeal
    ∧ algebraic_KernelIdeal_ReferenceIdeal_pre_alpha_descends (hKernelIdeal := hKernelIdeal) (hReferenceIdeal := hReferenceIdeal) (hPre_alpha_descends := hPre_alpha_descends)
-- ==== Pre_alpha_descends.lean ====
abbrev S8192x768 : Shape := ⟨2, ![8192, 768]⟩
abbrev S768x768 : Shape := ⟨2, ![768, 768]⟩
abbrev S768 : Shape := ⟨1, ![768]⟩
abbrev S767 : Shape := ⟨1, ![767]⟩
abbrev S_ : Shape := ⟨0, ![]⟩

class Facts : Prop where
  slices_S768_S767_1 : S768.Slices ![1] S767
  slices_S768_S767_0 : S768.Slices ![0] S767
  reducesTo_S767_S_d0 : S767.ReducesTo [0] S_
  h_S_ : 0 < S_.numel

variable [Facts]

def fn {F : FTy → Type} [FloatOps F] (main_arg0 : FVec F S8192x768 .f32) (main_arg1 : FVec F S768x768 .f32) (main_arg2 : FVec F S768 .f32) : IVec S_ 1 :=
  let main_v0 : FVec F S767 .f32 := (extractStridedSlice S767 ![1] · slices_S768_S767_1) main_arg2
  let main_v1 : FVec F S767 .f32 := (extractStridedSlice S767 ![0] · slices_S768_S767_0) main_arg2
  let main_v2 : IVec S767 1 := cmpf .ole main_v0 main_v1
  let main_c : IVec S_ 1 := constantI S_ 1 1#1
  let main_v3 : IVec S_ 1 := (fun x v => Host.reduce IntOp.andi x v reducesTo_S767_S_d0 h_S_) main_v2 main_c
  main_v3
-- ==== Kernel.lean ====
abbrev S8192x768 : Shape := ⟨2, ![8192, 768]⟩
abbrev S768x768 : Shape := ⟨2, ![768, 768]⟩
abbrev S768 : Shape := ⟨1, ![768]⟩
abbrev S1x768 : Shape := ⟨2, ![1, 768]⟩
abbrev S2048x768 : Shape := ⟨2, ![2048, 768]⟩
abbrev S768x1 : Shape := ⟨2, ![768, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S8192x768, .f32⟩
  | .local _ .vmem, ⟨0, _⟩ => ⟨S1x768, .f32⟩
  | .local _ .vmem, ⟨1, _⟩ => ⟨S768x768, .f32⟩
  | .local _ .vmem, ⟨2, _⟩ => ⟨S2048x768, .f32⟩
  | .local _ .vmem, ⟨3, _⟩ => ⟨S2048x768, .f32⟩
  | .local _ .vmem, ⟨4, _⟩ => ⟨S2048x768, .f32⟩
  | .local _ .vmem, ⟨5, _⟩ => ⟨S2048x768, .f32⟩
  | .local _ .vmem, ⟨6, _⟩ => ⟨S768x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_l" => some ((536870912 / 5368709 : ℝ) : EReal)
  | _ => none
-- ==== ReferenceIdeal.lean ====
abbrev S8192x768 : Shape := ⟨2, ![8192, 768]⟩
abbrev S768x768 : Shape := ⟨2, ![768, 768]⟩
abbrev S768 : Shape := ⟨1, ![768]⟩
abbrev S_ : Shape := ⟨0, ![]⟩
abbrev S768x1 : Shape := ⟨2, ![768, 1]⟩
abbrev S384x2 : Shape := ⟨2, ![384, 2]⟩
abbrev S384x1 : Shape := ⟨2, ![384, 1]⟩
abbrev S384 : Shape := ⟨1, ![384]⟩
abbrev S766 : Shape := ⟨1, ![766]⟩
abbrev S383x2 : Shape := ⟨2, ![383, 2]⟩
abbrev S383x1 : Shape := ⟨2, ![383, 1]⟩
abbrev S383 : Shape := ⟨1, ![383]⟩
abbrev S1 : Shape := ⟨1, ![1]⟩
abbrev S1x768 : Shape := ⟨2, ![1, 768]⟩
abbrev S768x768x1 : Shape := ⟨3, ![768, 768, 1]⟩
abbrev S1x1x1 : Shape := ⟨3, ![1, 1, 1]⟩
abbrev S768x768x2 : Shape := ⟨3, ![768, 768, 2]⟩

abbrev nBuf : Space → Nat
  | .hbm => 198
  | .vmem => 0
  | .smem => 0
  | _ => 0

abbrev hbmTy0_0 (i : Nat) : BufTy := match i % 128 with
  | 0 => ⟨S8192x768, .f32⟩
  | 1 => ⟨S768x768, .f32⟩
  | 2 => ⟨S768, .f32⟩
  | 3 => ⟨S768, .f32⟩
  | 4 => ⟨S768, .i32⟩
  | 5 => ⟨S768, .f32⟩
  | 6 => ⟨S768, .i32⟩
  | 7 => ⟨S_, .i32⟩
  | 8 => ⟨S768, .i32⟩
  | 9 => ⟨S768, .i1⟩
  | 10 => ⟨S_, .i32⟩
  | 11 => ⟨S768, .i32⟩
  | 12 => ⟨S768, .i32⟩
  | 13 => ⟨S768, .i32⟩
  | 14 => ⟨S768x1, .i32⟩
  | 15 => ⟨S768, .f32⟩
  | 16 => ⟨S768, .i32⟩
  | 17 => ⟨S_, .i32⟩
  | 18 => ⟨S768, .i32⟩
  | 19 => ⟨S768, .i1⟩
  | 20 => ⟨S768, .f32⟩
  | 21 => ⟨S_, .f32⟩
  | 22 => ⟨S768, .f32⟩
  | 23 => ⟨S768, .f32⟩
  | 24 => ⟨S768, .f32⟩
  | 25 => ⟨S_, .f32⟩
  | 26 => ⟨S768, .f32⟩
  | 27 => ⟨S_, .f32⟩
  | 28 => ⟨S768, .f32⟩
  | 29 => ⟨S_, .i32⟩
  | 30 => ⟨S_, .i32⟩
  | 31 => ⟨S768, .f32⟩
  | 32 => ⟨S768, .f32⟩
  | 33 => ⟨S768, .f32⟩
  | 34 => ⟨S_, .i32⟩
  | 35 => ⟨S_, .i1⟩
  | 36 => ⟨S768, .f32⟩
  | 37 => ⟨S384x2, .f32⟩
  | 38 => ⟨S384x1, .f32⟩
  | 39 => ⟨S384, .f32⟩
  | 40 => ⟨S384x1, .f32⟩
  | 41 => ⟨S384, .f32⟩
  | 42 => ⟨S384, .f32⟩
  | 43 => ⟨S_, .f32⟩
  | 44 => ⟨S384, .f32⟩
  | 45 => ⟨S384, .f32⟩
  | 46 => ⟨S384x1, .f32⟩
  | 47 => ⟨S384, .f32⟩
  | 48 => ⟨S384x1, .f32⟩
  | 49 => ⟨S384, .f32⟩
  | 50 => ⟨S384, .i1⟩
  | 51 => ⟨S384x1, .f32⟩
  | 52 => ⟨S384, .f32⟩
  | 53 => ⟨S384, .f32⟩
  | 54 => ⟨S384x1, .f32⟩
  | 55 => ⟨S384, .f32⟩
  | 56 => ⟨S384, .f32⟩
  | 57 => ⟨S384x1, .f32⟩
  | 58 => ⟨S384x1, .f32⟩
  | 59 => ⟨S384x2, .f32⟩
  | 60 => ⟨S768, .f32⟩
  | 61 => ⟨S768, .f32⟩
  | 62 => ⟨S768, .f32⟩
  | 63 => ⟨S768, .f32⟩
  | 64 => ⟨S766, .f32⟩
  | 65 => ⟨S383x2, .f32⟩
  | 66 => ⟨S383x1, .f32⟩
  | 67 => ⟨S383, .f32⟩
  | 68 => ⟨S383x1, .f32⟩
  | 69 => ⟨S383, .f32⟩
  | 70 => ⟨S383, .f32⟩
  | 71 => ⟨S_, .f32⟩
  | 72 => ⟨S383, .f32⟩
  | 73 => ⟨S383, .f32⟩
  | 74 => ⟨S383x1, .f32⟩
  | 75 => ⟨S383, .f32⟩
  | 76 => ⟨S383x1, .f32⟩
  | 77 => ⟨S383, .f32⟩
  | 78 => ⟨S383, .i1⟩
  | 79 => ⟨S383x1, .f32⟩
  | 80 => ⟨S383, .f32⟩
  | 81 => ⟨S383, .f32⟩
  | 82 => ⟨S383x1, .f32⟩
  | 83 => ⟨S383, .f32⟩
  | 84 => ⟨S383, .f32⟩
  | 85 => ⟨S1, .f32⟩
  | 86 => ⟨S383x1, .f32⟩
  | 87 => ⟨S383x1, .f32⟩
  | 88 => ⟨S383x2, .f32⟩
  | 89 => ⟨S766, .f32⟩
  | 90 => ⟨S1, .f32⟩
  | 91 => ⟨S768, .f32⟩
  | 92 => ⟨S768, .f32⟩
  | 93 => ⟨S768, .f32⟩
  | 94 => ⟨S_, .i32⟩
  | 95 => ⟨S_, .i32⟩
  | 96 => ⟨S_, .f32⟩
  | 97 => ⟨S768, .f32⟩
  | 98 => ⟨S768, .f32⟩
  | 99 => ⟨S768, .f32⟩
  | 100 => ⟨S_, .f32⟩
  | 101 => ⟨S_, .f32⟩
  | 102 => ⟨S_, .f32⟩
  | 103 => ⟨S768, .f32⟩
  | 104 => ⟨S768, .f32⟩
  | 105 => ⟨S_, .f32⟩
  | 106 => ⟨S768, .f32⟩
  | 107 => ⟨S768, .f32⟩
  | 108 => ⟨S768, .i32⟩
  | 109 => ⟨S768, .i32⟩
  | 110 => ⟨S768, .i32⟩
  | 111 => ⟨S_, .i32⟩
  | 112 => ⟨S768, .i32⟩
  | 113 => ⟨S768, .i1⟩
  | 114 => ⟨S_, .i32⟩
  | 115 => ⟨S768, .i32⟩
  | 116 => ⟨S768, .i32⟩
  | 117 => ⟨S768, .i32⟩
  | 118 => ⟨S768x1, .i32⟩
  | 119 => ⟨S768, .f32⟩
  | 120 => ⟨S768, .i32⟩
  | 121 => ⟨S768, .i32⟩
  | 122 => ⟨S768x1, .i32⟩
  | 123 => ⟨S1x768, .i32⟩
  | 124 => ⟨S768x768, .i32⟩
  | 125 => ⟨S768x768, .i32⟩
  | 126 => ⟨S768x768, .i32⟩
  | 127 => ⟨S_, .i32⟩
  | _ => ⟨S8192x768, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S768x768, .i32⟩
  | 6 => ⟨S768x768, .i32⟩
  | 7 => ⟨S_, .i32⟩
  | 8 => ⟨S768x768, .i32⟩
  | 9 => ⟨S768x768, .i1⟩
  | 10 => ⟨S_, .i32⟩
  | 11 => ⟨S768x768, .i32⟩
  | 12 => ⟨S768x768, .i1⟩
  | 13 => ⟨S_, .i32⟩
  | 14 => ⟨S_, .i1⟩
  | 15 => ⟨S768x768, .i1⟩
  | 16 => ⟨S768x768, .i1⟩
  | 17 => ⟨S768x768, .i1⟩
  | 18 => ⟨S768x768, .i32⟩
  | 19 => ⟨S768x768, .i32⟩
  | 20 => ⟨S768x768, .i32⟩
  | 21 => ⟨S1x768, .i32⟩
  | 22 => ⟨S768x768, .i32⟩
  | 23 => ⟨S768x1, .f32⟩
  | 24 => ⟨S_, .i32⟩
  | 25 => ⟨S768x768, .i32⟩
  | 26 => ⟨S768x768, .i1⟩
  | 27 => ⟨S_, .i32⟩
  | 28 => ⟨S768x768, .i32⟩
  | 29 => ⟨S768x768, .i32⟩
  | 30 => ⟨S768x768, .i32⟩
  | 31 => ⟨S768x768x1, .i32⟩
  | 32 => ⟨S1, .i32⟩
  | 33 => ⟨S_, .i32⟩
  | 34 => ⟨S768x768x1, .i32⟩
  | 35 => ⟨S768x768x1, .i1⟩
  | 36 => ⟨S1x1x1, .i32⟩
  | 37 => ⟨S768x768x1, .i32⟩
  | 38 => ⟨S768x768x1, .i1⟩
  | 39 => ⟨S768x768x1, .i1⟩
  | 40 => ⟨S_, .i1⟩
  | 41 => ⟨S768x768, .i1⟩
  | 42 => ⟨S768x768, .f32⟩
  | 43 => ⟨S_, .f32⟩
  | 44 => ⟨S768x768, .f32⟩
  | 45 => ⟨S768x768, .f32⟩
  | 46 => ⟨S768x768, .f32⟩
  | 47 => ⟨S768x768, .f32⟩
  | 48 => ⟨S_, .f32⟩
  | 49 => ⟨S768x768, .f32⟩
  | 50 => ⟨S_, .i32⟩
  | 51 => ⟨S768x768, .i32⟩
  | 52 => ⟨S768x768, .i1⟩
  | 53 => ⟨S_, .i32⟩
  | 54 => ⟨S768x768, .i32⟩
  | 55 => ⟨S768x768, .i32⟩
  | 56 => ⟨S768x768, .i32⟩
  | 57 => ⟨S_, .i32⟩
  | 58 => ⟨S768x768, .i32⟩
  | 59 => ⟨S768x768, .i1⟩
  | 60 => ⟨S_, .i32⟩
  | 61 => ⟨S768x768, .i32⟩
  | 62 => ⟨S768x768, .i32⟩
  | 63 => ⟨S768x768, .i32⟩
  | 64 => ⟨S768x768x1, .i32⟩
  | 65 => ⟨S768x768x1, .i32⟩
  | 66 => ⟨S768x768x2, .i32⟩
  | 67 => ⟨S768x768, .f32⟩
  | 68 => ⟨S768x768, .f32⟩
  | 69 => ⟨S8192x768, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_c_4 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_while0c_c_19 : Ref sig .tc := ⟨.hbm, 34, rfl⟩
abbrev main_while0c_v62 : Ref sig .tc := ⟨.hbm, 35, rfl⟩
abbrev main_while0b_v62 : Ref sig .tc := ⟨.hbm, 36, rfl⟩
abbrev main_while0b_v63 : Ref sig .tc := ⟨.hbm, 37, rfl⟩
abbrev main_while0b_v64 : Ref sig .tc := ⟨.hbm, 38, rfl⟩
abbrev main_while0b_v65 : Ref sig .tc := ⟨.hbm, 39, rfl⟩
abbrev main_while0b_v66 : Ref sig .tc := ⟨.hbm, 40, rfl⟩
abbrev main_while0b_v67 : Ref sig .tc := ⟨.hbm, 41, rfl⟩
abbrev main_while0b_v68 : Ref sig .tc := ⟨.hbm, 42, rfl⟩
abbrev main_while0b_cst_19 : Ref sig .tc := ⟨.hbm, 43, rfl⟩
abbrev main_while0b_v69 : Ref sig .tc := ⟨.hbm, 44, rfl⟩
abbrev main_while0b_v70 : Ref sig .tc := ⟨.hbm, 45, rfl⟩
abbrev main_while0b_v71 : Ref sig .tc := ⟨.hbm, 46, rfl⟩
abbrev main_while0b_v72 : Ref sig .tc := ⟨.hbm, 47, rfl⟩
abbrev main_while0b_v73 : Ref sig .tc := ⟨.hbm, 48, rfl⟩
abbrev main_while0b_v74 : Ref sig .tc := ⟨.hbm, 49, rfl⟩
abbrev main_while0b_v75 : Ref sig .tc := ⟨.hbm, 50, rfl⟩
abbrev main_while0b_v76 : Ref sig .tc := ⟨.hbm, 51, rfl⟩
abbrev main_while0b_v77 : Ref sig .tc := ⟨.hbm, 52, rfl⟩
abbrev main_while0b_v78 : Ref sig .tc := ⟨.hbm, 53, rfl⟩
abbrev main_while0b_v79 : Ref sig .tc := ⟨.hbm, 54, rfl⟩
abbrev main_while0b_v80 : Ref sig .tc := ⟨.hbm, 55, rfl⟩
abbrev main_while0b_v81 : Ref sig .tc := ⟨.hbm, 56, rfl⟩
abbrev main_while0b_v82 : Ref sig .tc := ⟨.hbm, 57, rfl⟩
abbrev main_while0b_v83 : Ref sig .tc := ⟨.hbm, 58, rfl⟩
abbrev main_while0b_v84 : Ref sig .tc := ⟨.hbm, 59, rfl⟩
abbrev main_while0b_v85 : Ref sig .tc := ⟨.hbm, 60, rfl⟩
abbrev main_while0b_v86 : Ref sig .tc := ⟨.hbm, 61, rfl⟩
abbrev main_while0b_v87 : Ref sig .tc := ⟨.hbm, 62, rfl⟩
abbrev main_while0b_v88 : Ref sig .tc := ⟨.hbm, 63, rfl⟩
abbrev main_while0b_v89 : Ref sig .tc := ⟨.hbm, 64, rfl⟩
abbrev main_while0b_v90 : Ref sig .tc := ⟨.hbm, 65, rfl⟩
abbrev main_while0b_v91 : Ref sig .tc := ⟨.hbm, 66, rfl⟩
abbrev main_while0b_v92 : Ref sig .tc := ⟨.hbm, 67, rfl⟩
abbrev main_while0b_v93 : Ref sig .tc := ⟨.hbm, 68, rfl⟩
abbrev main_while0b_v94 : Ref sig .tc := ⟨.hbm, 69, rfl⟩
abbrev main_while0b_v95 : Ref sig .tc := ⟨.hbm, 70, rfl⟩
abbrev main_while0b_cst_20 : Ref sig .tc := ⟨.hbm, 71, rfl⟩
abbrev main_while0b_v96 : Ref sig .tc := ⟨.hbm, 72, rfl⟩
abbrev main_while0b_v97 : Ref sig .tc := ⟨.hbm, 73, rfl⟩
abbrev main_while0b_v98 : Ref sig .tc := ⟨.hbm, 74, rfl⟩
abbrev main_while0b_v99 : Ref sig .tc := ⟨.hbm, 75, rfl⟩
abbrev main_while0b_v100 : Ref sig .tc := ⟨.hbm, 76, rfl⟩
abbrev main_while0b_v101 : Ref sig .tc := ⟨.hbm, 77, rfl⟩
abbrev main_while0b_v102 : Ref sig .tc := ⟨.hbm, 78, rfl⟩
abbrev main_while0b_v103 : Ref sig .tc := ⟨.hbm, 79, rfl⟩
abbrev main_while0b_v104 : Ref sig .tc := ⟨.hbm, 80, rfl⟩
abbrev main_while0b_v105 : Ref sig .tc := ⟨.hbm, 81, rfl⟩
abbrev main_while0b_v106 : Ref sig .tc := ⟨.hbm, 82, rfl⟩
abbrev main_while0b_v107 : Ref sig .tc := ⟨.hbm, 83, rfl⟩
abbrev main_while0b_v108 : Ref sig .tc := ⟨.hbm, 84, rfl⟩
abbrev main_while0b_v109 : Ref sig .tc := ⟨.hbm, 85, rfl⟩
abbrev main_while0b_v110 : Ref sig .tc := ⟨.hbm, 86, rfl⟩
abbrev main_while0b_v111 : Ref sig .tc := ⟨.hbm, 87, rfl⟩
abbrev main_while0b_v112 : Ref sig .tc := ⟨.hbm, 88, rfl⟩
abbrev main_while0b_v113 : Ref sig .tc := ⟨.hbm, 89, rfl⟩
abbrev main_while0b_v114 : Ref sig .tc := ⟨.hbm, 90, rfl⟩
abbrev main_while0b_v115 : Ref sig .tc := ⟨.hbm, 91, rfl⟩
abbrev main_while0b_v116 : Ref sig .tc := ⟨.hbm, 92, rfl⟩
abbrev main_while0b_v117 : Ref sig .tc := ⟨.hbm, 93, rfl⟩
abbrev main_while0b_c_21 : Ref sig .tc := ⟨.hbm, 94, rfl⟩
abbrev main_while0b_v118 : Ref sig .tc := ⟨.hbm, 95, rfl⟩
abbrev main_cst_5 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_cst_6 : Ref sig .tc := ⟨.hbm, 100, rfl⟩
abbrev main_cst_7 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v22 : Ref sig .tc := ⟨.hbm, 107, rfl⟩
abbrev main_call6_v0 : Ref sig .tc := ⟨.hbm, 108, rfl⟩
abbrev main_call6_v1_0 : Ref sig .tc := ⟨.hbm, 109, rfl⟩
abbrev main_v23 : Ref sig .tc := ⟨.hbm, 110, rfl⟩
abbrev main_c_8 : Ref sig .tc := ⟨.hbm, 111, rfl⟩
abbrev main_v24 : Ref sig .tc := ⟨.hbm, 112, rfl⟩
abbrev main_v25 : Ref sig .tc := ⟨.hbm, 113, rfl⟩
abbrev main_c_9 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_c_10 : Ref sig .tc := ⟨.hbm, 127, rfl⟩
abbrev main_call7_v0 : Ref sig .tc := ⟨.hbm, 128, rfl⟩
abbrev main_call7_c : Ref sig .tc := ⟨.hbm, 129, rfl⟩
abbrev main_call7_v1 : Ref sig .tc := ⟨.hbm, 130, rfl⟩
abbrev main_call7_c_0 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_c_1 : Ref sig .tc := ⟨.hbm, 135, rfl⟩
abbrev main_call7_v5 : Ref sig .tc := ⟨.hbm, 136, rfl⟩
abbrev main_call7_v6 : Ref sig .tc := ⟨.hbm, 137, rfl⟩
abbrev main_call7_c_2 : Ref sig .tc := ⟨.hbm, 138, rfl⟩
abbrev main_call7_v7 : Ref sig .tc := ⟨.hbm, 139, rfl⟩
abbrev main_call7_v8 : Ref sig .tc := ⟨.hbm, 140, rfl⟩
abbrev main_call7_c_3 : Ref sig .tc := ⟨.hbm, 141, rfl⟩
abbrev main_call7_v9 : Ref sig .tc := ⟨.hbm, 142, rfl⟩
abbrev main_call7_v10 : Ref sig .tc := ⟨.hbm, 143, rfl⟩
abbrev main_call7_v11 : Ref sig .tc := ⟨.hbm, 144, rfl⟩
abbrev main_call7_v12 : Ref sig .tc := ⟨.hbm, 145, rfl⟩
abbrev main_call7_v13 : Ref sig .tc := ⟨.hbm, 146, rfl⟩
abbrev main_call7_v14 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_v41 : Ref sig .tc := ⟨.hbm, 151, rfl⟩
abbrev main_call8_c : Ref sig .tc := ⟨.hbm, 152, rfl⟩
abbrev main_call8_v0 : Ref sig .tc := ⟨.hbm, 153, rfl⟩
abbrev main_call8_v1 : Ref sig .tc := ⟨.hbm, 154, rfl⟩
abbrev main_call8_c_0 : Ref sig .tc := ⟨.hbm, 155, rfl⟩
abbrev main_call8_v2 : Ref sig .tc := ⟨.hbm, 156, rfl⟩
abbrev main_call8_v3 : Ref sig .tc := ⟨.hbm, 157, rfl⟩
abbrev main_call8_v4 : Ref sig .tc := ⟨.hbm, 158, rfl⟩
abbrev main_call8_v5 : Ref sig .tc := ⟨.hbm, 159, rfl⟩
abbrev main_call8_c_1 : Ref sig .tc := ⟨.hbm, 160, rfl⟩
abbrev main_call8_c_2 : Ref sig .tc := ⟨.hbm, 161, rfl⟩
abbrev main_call8_v6 : Ref sig .tc := ⟨.hbm, 162, rfl⟩
abbrev main_call8_v7 : Ref sig .tc := ⟨.hbm, 163, rfl⟩
abbrev main_call8_v8 : Ref sig .tc := ⟨.hbm, 164, rfl⟩
abbrev main_call8_v9 : Ref sig .tc := ⟨.hbm, 165, rfl⟩
abbrev main_call8_v10 : Ref sig .tc := ⟨.hbm, 166, rfl⟩
abbrev main_call8_v11 : Ref sig .tc := ⟨.hbm, 167, rfl⟩
abbrev main_call8_c_3 : Ref sig .tc := ⟨.hbm, 168, rfl⟩
abbrev main_call8_v12 : Ref sig .tc := ⟨.hbm, 169, rfl⟩
abbrev main_call8_v13 : Ref sig .tc := ⟨.hbm, 170, rfl⟩
abbrev main_call8_cst : Ref sig .tc := ⟨.hbm, 171, rfl⟩
abbrev main_call8_v14 : Ref sig .tc := ⟨.hbm, 172, rfl⟩
abbrev main_v42 : Ref sig .tc := ⟨.hbm, 173, rfl⟩
abbrev main_v43 : Ref sig .tc := ⟨.hbm, 174, rfl⟩
abbrev main_v44 : Ref sig .tc := ⟨.hbm, 175, rfl⟩
abbrev main_cst_11 : Ref sig .tc := ⟨.hbm, 176, rfl⟩
abbrev main_v45 : Ref sig .tc := ⟨.hbm, 177, rfl⟩
abbrev main_c_12 : Ref sig .tc := ⟨.hbm, 178, rfl⟩
abbrev main_v46 : Ref sig .tc := ⟨.hbm, 179, rfl⟩
abbrev main_v47 : Ref sig .tc := ⟨.hbm, 180, rfl⟩
abbrev main_c_13 : Ref sig .tc := ⟨.hbm, 181, rfl⟩
abbrev main_v48 : Ref sig .tc := ⟨.hbm, 182, rfl⟩
abbrev main_v49 : Ref sig .tc := ⟨.hbm, 183, rfl⟩
abbrev main_v50 : Ref sig .tc := ⟨.hbm, 184, rfl⟩
abbrev main_c_14 : Ref sig .tc := ⟨.hbm, 185, rfl⟩
abbrev main_v51 : Ref sig .tc := ⟨.hbm, 186, rfl⟩
abbrev main_v52 : Ref sig .tc := ⟨.hbm, 187, rfl⟩
abbrev main_c_15 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩

abbrev nD : Nat := 1
abbrev τ : Topo := Topo.v7x

variable {F : FTy → Type} [FloatOps F]

abbrev main_while0_count : Scf.Loop 32 := ⟨0#32, 50#32, 1#32⟩
-- ==== Proof.KStep.lean ====
module
public import proofs.«01_k».proof.Proof.Gen.KernelIdeal.Value
@[expose] public section

/-! One step of the kernel's unrolled iteration, as a function on a row of 768 lanes, and the row the fifty
steps end on. -/

noncomputable section
namespace Cert.KernelIdeal.Own
open Cert.KernelIdeal Cert.KernelIdeal.Gen Idealize.ShloMosaic Idealize.ShloMosaic.TcCoe Idealize.SL.Sem

variable {F : FTy → Type} [FloatOps F] [Named F]

/-- The row one lane to the left of each lane, round the end. -/
def left (y : FVec F S1x768 .f32) : FVec F S1x768 .f32 := dynamicRotate 1 1#32 none y rotates_S1x768_d1

/-- The row one lane to the right of each lane, round the end. -/
def right (y : FVec F S1x768 .f32) : FVec F S1x768 .f32 := dynamicRotate 1 767#32 none y rotates_S1x768_d1

/-- The row of halves. -/
def halves : FVec F S1x768 .f32 := broadcast S1x768 (Scalar.ofBits .f32 0x3F000000#32 : F .f32)

/-- Where a lane isn't even. -/
def oddLane : IVec S1x768 1 := xori k0_pay4 (constantI S1x768 1 1#1)

/-- Averages the pairs (0,1), (2,3), … that ascend. -/
def projE (y : FVec F S1x768 .f32) : FVec F S1x768 .f32 :=
  select (ori (andi k0_pay4 (cmpf .olt y (right y))) (andi oddLane (cmpf .olt (left y) y)))
    (select k0_pay4 (mulf halves (addf y (right y))) (mulf halves (addf (left y) y))) y

/-- Averages the pairs (1,2), (3,4), … that ascend; the first and the last lane stay. -/
def projO (y : FVec F S1x768 .f32) : FVec F S1x768 .f32 :=
  select (andi (ori (andi k0_pay4 (cmpf .olt (left y) y)) (andi oddLane (cmpf .olt y (right y)))) k0_pay5)
    (select k0_pay4 (mulf halves (addf (left y) y)) (mulf halves (addf y (right y)))) y

/-- The point and the two corrections. -/
structure St (F : FTy → Type) where
  /-- The point. -/
  v : FVec F S1x768 .f32
  /-- The even projection's correction. -/
  p : FVec F S1x768 .f32
  /-- The odd projection's correction. -/
  q : FVec F S1x768 .f32

/-- One step: the even projection, then the odd one, each with its correction. -/
def kstep (s : St F) : St F :=
  let y := projE (addf s.v s.p)
  let w := projO (addf y s.q)
  ⟨w, subf (addf s.v s.p) y, subf (addf y s.q) w⟩

/-- Where the iteration begins, from the loaded row of alpha. -/
def kinit (a : Vec F S1x768 .f32) : St F := ⟨k0_pay6 a, k0_pay7, k0_pay8⟩

/-- The mask from the row the fifty steps end on: clipped to between zero and one. -/
def kmask (a : Vec F S1x768 .f32) : FVec F S1x768 .f32 :=
  minimumf (broadcast S1x768 (Scalar.ofBits .f32 0x3F800000#32 : F .f32))
    (maximumf (broadcast S1x768 (Scalar.ofBits .f32 0x00000000#32 : F .f32)) (subf (k0_pay3 a) (kstep^[50] (kinit a)).v))

/-- The square of ones at the cells whose row and column sum to a multiple of 768, and zeros elsewhere. -/
def revM : FVec F S768x768 .f32 := kernelRun0_A.sl.v2017

/-- The rows whose number has one of the bits of `b` set turned by `b` lanes, the others left. -/
def rollIf (b : BitVec 32) (f : FVec F S768x768 .f32) : FVec F S768x768 .f32 :=
  select (broadcastTo S768x768 (shapeCast S768x1 (cmpi .ne (andi (iota .tc S768x1 32 [0] iota_S768x1_d0_w32)
      (broadcast S768x1 b)) (broadcast S768x1 0#32)) shapeCasts_S768x1_S768x1) broadcasts_S768x1_S768x768)
    (dynamicRotate 1 b none f rotates_S768x768_d1) f

/-- The matrix before its rows are turned. -/
def flat (a : Vec F S1x768 .f32) (V : Vec F S768x768 .f32) : FVec F S768x768 .f32 :=
  mulf (matmul dot_S768x768_S768x768_S768x768_0_0_1_1_n_n none V revM (constant S768x768 .f32 0x00000000#32))
    (broadcastTo S768x768 (matmul dot_S1x768_S768x768_S1x768_1_0_0_1_n_n none (kmask a) revM
      (constant S1x768 .f32 0x00000000#32)) broadcasts_S1x768_S768x768)

/-- The matrix the first step leaves in its scratch. -/
def kW (a : Vec F S1x768 .f32) (V : Vec F S768x768 .f32) : FVec F S768x768 .f32 :=
  [512#32, 256#32, 128#32, 64#32, 32#32, 16#32, 8#32, 4#32, 2#32, 1#32].foldr rollIf (flat a V)

open kernelRun0_A.sl in
/-- What the first step stores in its scratch is `kW` of the loaded alpha and the loaded V. -/
theorem stored (c : Dev nD) (arg1 : Memref sig .tc .vmem S1x768 .f32) (h1 : arg1.IsWhole)
    (arg2 : Memref sig .tc .vmem S768x768 .f32) (h2 : arg2.IsWhole) (x0 : Vec F S1x768 .f32) (x1 : Vec F S768x768 .f32) :
    k0_pay1 (r_5 c arg1 h1 arg2 h2 x0 x1) (r_6 c arg1 h1 arg2 h2 x0 x1) (k0_pay373 v2023)
      = kW (View.readAt (Elt F) arg1.view (Rect.unit ![0, 0] S1x768.size inb_S1x768_S1x768_0_0).toLoadRect (h1.unread x0))
          (View.readAt (Elt F) arg2.view (Rect.unit ![0, 0] S768x768.size inb_S768x768_S768x768_0_0).toLoadRect (h2.unread x1)) := by
  have e : ∀ f : FVec F S768x768 .f32, shapeCast S768x768 f shapeCasts_S768x768_S768x768 = f := fun f => by
    funext i; simp [shapeCast]
  exact (e _).trans rfl

end Cert.KernelIdeal.Own
-- ==== Proof.Spec.lean ====
module
public import Idealize.ShloMosaic.Lib.Pointwise
public import Idealize.ShloMosaic.Lib.ValueIdx
@[expose] public section

/-! The iteration and the product on plain functions of the lane, which both programs compute. -/

noncomputable section
namespace Cert.Lane
open Idealize.ShloMosaic

/-- One value per lane. -/
abbrev Ln := Fin 768 → EReal

/-- The lane after `j`, round the end. -/
def nxt (j : Fin 768) : Fin 768 := ⟨(j.val + 1) % 768, Nat.mod_lt _ (by decide)⟩

/-- The lane before `j`, round the end. -/
def prv (j : Fin 768) : Fin 768 := ⟨(j.val + 767) % 768, Nat.mod_lt _ (by decide)⟩

/-- One half, as both programs write it. -/
def half : EReal := Scalar.ofBits (F := Ideal) .f32 0x3F000000#32

/-- What a pair `(a, b)` leaves in the one of the two places that held `y`: the mean where the pair ascends. -/
def mix (a b y : EReal) : EReal := if a < b then half * (a + b) else y

/-- The pairs (0,1), (2,3), … averaged where they ascend. -/
def avgE (y : Ln) : Ln := fun j =>
  if j.val % 2 = 0 then mix (y j) (y (nxt j)) (y j) else mix (y (prv j)) (y j) (y j)

/-- The pairs (1,2), (3,4), … averaged where they ascend; the two end lanes stay. -/
def avgO (y : Ln) : Ln := fun j =>
  if 0 < j.val ∧ j.val < 767 then
    if j.val % 2 = 0 then mix (y (prv j)) (y j) (y j) else mix (y j) (y (nxt j)) (y j)
  else y j

/-- The point and the two corrections. -/
structure St where
  /-- The point. -/
  v : Ln
  /-- The even averaging's correction. -/
  p : Ln
  /-- The odd averaging's correction. -/
  q : Ln

/-- One step: the even averaging, then the odd one, each with its correction. -/
def step (s : St) : St :=
  let y := avgE (fun j => s.v j + s.p j)
  let w := avgO (fun j => y j + s.q j)
  ⟨w, fun j => s.v j + s.p j - y j, fun j => y j + s.q j - w j⟩

/-- The score of a lane: alpha over 0.01 (the float nearest it), as a product. -/
def score (a : Ln) : Ln := fun j => a j * ((536870912 / 5368709 : ℝ) : EReal)

/-- Where the iteration starts: the scores less the one of the first 692 lanes, no corrections. -/
def start (a : Ln) : St :=
  ⟨fun j => score a j - (if j.val < 692 then 1 else 0), fun _ => 0, fun _ => 0⟩

/-- The soft top-k mask: the scores less the row that fifty steps end on, clipped to between zero and one. -/
def mask (a : Ln) : Ln := fun j => min 1 (max 0 (score a j - (step^[50] (start a)).v j))

/-- The diagonal of the cell at row `r`, column `c`. -/
def diag (r c : Fin 768) : Fin 768 := ⟨(r.val + 768 - c.val) % 768, Nat.mod_lt _ (by decide)⟩

/-- The weight at row `r`, column `c`: its diagonal's mask by its diagonal's entry of `V`. -/
def weight (a : Ln) (V : Fin 768 → Fin 768 → EReal) (r c : Fin 768) : EReal :=
  V (diag r c) r * mask a (diag r c)

/-- The result at row `n`, column `r`: row `n` of `x` against row `r` of the weight. -/
def out (x : Fin 8192 → Fin 768 → EReal) (V : Fin 768 → Fin 768 → EReal) (a : Ln) (n : Fin 8192) (r : Fin 768) : EReal :=
  ∑ c : Fin 768, x n c * weight a V r c

end Cert.Lane
-- ==== Proof.KLane.lean ====
module
public import proofs.«01_k».proof.Proof.KStep
public import proofs.«01_k».proof.Proof.Spec
@[expose] public section

/-! The kernel's step read lane by lane, over the extended reals. -/

noncomputable section
namespace Cert.KernelIdeal.Own
open Cert.KernelIdeal Cert.KernelIdeal.Gen Idealize.ShloMosaic Idealize.ShloMosaic.TcCoe Idealize.SL.Sem
open Cert.Lane

/-- A row by its lanes. -/
def lanes (y : FVec Ideal S1x768 .f32) : Ln := fun j => y (ix2 0 j)

/-- The even-lane mask at a lane. -/
theorem even_at : ∀ j : Fin 768, k0_pay4 (ix2 0 j) = BitVec.ofBool (decide (j.val % 2 = 0)) := by decide +kernel

/-- The odd-lane mask at a lane. -/
theorem odd_at : ∀ j : Fin 768, oddLane (ix2 0 j) = BitVec.ofBool (!decide (j.val % 2 = 0)) := by decide +kernel

/-- The interior mask at a lane. -/
theorem inner_at : ∀ j : Fin 768, k0_pay5 (ix2 0 j) = BitVec.ofBool (decide (0 < j.val ∧ j.val < 767)) := by decide +kernel

theorem left_at (y : FVec Ideal S1x768 .f32) (j : Fin 768) : left y (ix2 0 j) = lanes y (prv j) := by
  unfold left lanes prv
  pointwise
  congr 2

theorem right_at (y : FVec Ideal S1x768 .f32) (j : Fin 768) : right y (ix2 0 j) = lanes y (nxt j) := by
  unfold right lanes nxt
  pointwise
  congr 2

theorem halves_at (i : S1x768.Idx) : halves (F := Ideal) i = half := rfl

/-- The select of a boolean's bit is the conditional. -/
theorem select_bit {α : Type} (b : Bool) (x y : α) : Scalar.select (BitVec.ofBool b) x y = if b then x else y := by
  cases b <;> rfl

/-- `and` of two booleans' bits. -/
theorem and_bit (a b : Bool) : IntOp.andi (BitVec.ofBool a) (BitVec.ofBool b) = BitVec.ofBool (a && b) := by
  cases a <;> cases b <;> rfl

/-- `or` of two booleans' bits. -/
theorem or_bit (a b : Bool) : IntOp.ori (BitVec.ofBool a) (BitVec.ofBool b) = BitVec.ofBool (a || b) := by
  cases a <;> cases b <;> rfl

/-- The kernel's even averaging, lane by lane. -/
theorem projE_at (y : FVec Ideal S1x768 .f32) : lanes (projE y) = avgE (lanes y) := by
  funext j
  show projE y (ix2 0 j) = _
  unfold projE
  pointwise
  rw [left_at, right_at, even_at, odd_at, halves_at, show y (ix2 0 j) = lanes y j from rfl]
  simp only [and_bit, or_bit, select_bit]
  unfold avgE mix
  by_cases h : j.val % 2 = 0 <;> by_cases l : lanes y (prv j) < lanes y j <;> by_cases r : lanes y j < lanes y (nxt j) <;>
    simp [h, l, r]

/-- The kernel's odd averaging, lane by lane. -/
theorem projO_at (y : FVec Ideal S1x768 .f32) : lanes (projO y) = avgO (lanes y) := by
  funext j
  show projO y (ix2 0 j) = _
  unfold projO
  pointwise
  rw [left_at, right_at, even_at, odd_at, inner_at, halves_at, show y (ix2 0 j) = lanes y j from rfl]
  simp only [and_bit, or_bit, select_bit]
  unfold avgO mix
  by_cases h' : 0 < j.val ∧ j.val < 767
  · rw [if_pos h', decide_eq_true h']
    by_cases h : j.val % 2 = 0 <;> by_cases l : lanes y (prv j) < lanes y j <;> by_cases r : lanes y j < lanes y (nxt j) <;>
      simp [h, l, r]
  · rw [if_neg h', decide_eq_false h', Bool.and_false, if_neg Bool.false_ne_true]

/-- A kernel state by its lanes. -/
def laneSt (s : Own.St Ideal) : Lane.St := ⟨lanes s.v, lanes s.p, lanes s.q⟩

theorem lanes_add (x y : FVec Ideal S1x768 .f32) : lanes (addf x y) = fun j => lanes x j + lanes y j := rfl
theorem lanes_sub (x y : FVec Ideal S1x768 .f32) : lanes (subf x y) = fun j => lanes x j - lanes y j := rfl

/-- The kernel's step is the lanes' step. -/
theorem kstep_at (s : Own.St Ideal) : laneSt (kstep s) = step (laneSt s) := by
  unfold laneSt kstep step
  simp only [projE_at, projO_at, lanes_add, lanes_sub]

/-- So are any number of them. -/
theorem kstep_iter (n : ℕ) (s : Own.St Ideal) : laneSt (kstep^[n] s) = step^[n] (laneSt s) := by
  induction n generalizing s with
  | zero => rfl
  | succ n ih => rw [Function.iterate_succ_apply, Function.iterate_succ_apply, ih, kstep_at]

/-- The first 692 lanes' one. -/
theorem top_at : ∀ j : Fin 768, IntOp.cmpi .slt (BitVec.ofNat 32 j.val) 692#32 = BitVec.ofBool (decide (j.val < 692)) := by
  decide +kernel

/-- The kernel's scores, lane by lane. -/
theorem score_at (a : Vec Ideal S1x768 .f32) : lanes (k0_pay3 a) = score (lanes a) := by
  funext j
  show k0_pay3 a (ix2 0 j) = _
  unfold k0_pay3
  pointwise
  rw [show Named.named (F := Ideal) κ "inv_l" (φ := .f32) 0x42C80000#32 = ((536870912 / 5368709 : ℝ) : EReal) from
    IdealRules.named_const.ideal_named_scalar _ _ _ _ rfl]
  rfl

/-- Where the kernel's iteration starts, lane by lane. -/
theorem kinit_at (a : Vec Ideal S1x768 .f32) : laneSt (kinit a) = start (lanes a) := by
  unfold laneSt kinit start
  congr 1
  · funext j
    show k0_pay6 a (ix2 0 j) = _
    rw [← score_at]
    unfold k0_pay6 lanes
    pointwise
    rw [top_at, select_bit]
    by_cases h : j.val < 692 <;> simp [h]
  · funext j
    show k0_pay7 (F := Ideal) (ix2 0 j) = _
    unfold k0_pay7
    pointwise
  · funext j
    show k0_pay8 (F := Ideal) (ix2 0 j) = _
    unfold k0_pay8
    pointwise

/-- The kernel's mask, lane by lane. -/
theorem kmask_at (a : Vec Ideal S1x768 .f32) : lanes (kmask a) = mask (lanes a) := by
  funext j
  have e := congrFun (congrArg Lane.St.v (kstep_iter 50 (kinit a))) j
  rw [kinit_at] at e
  have e' := congrFun (score_at a) j
  unfold mask
  rw [← e, ← e']
  show kmask a (ix2 0 j) = _
  unfold kmask laneSt lanes
  pointwise

end Cert.KernelIdeal.Own
-- ==== Proof.KMat.lean ====
module
public import proofs.«01_k».proof.Proof.KLane
@[expose] public section

/-! The matrix the kernel assembles, entry by entry, and the product each point of the grid stores. -/

noncomputable section
namespace Cert.KernelIdeal.Own
open Cert.KernelIdeal Cert.KernelIdeal.Gen Idealize.ShloMosaic Idealize.ShloMosaic.TcCoe Idealize.SL.Sem
open Cert.Lane

/-- The bit the square of ones tests: the remainder by 768, taken with the divisor's sign, is zero. -/
def remBit (x : BitVec 32) : BitVec 1 :=
  let m := Scalar.select (IntOp.cmpi .eq 768#32 0#32) 1#32 768#32
  let r := IntOp.remsi .vector x m
  IntOp.cmpi .eq (Scalar.select (IntOp.andi (IntOp.xori (IntOp.cmpi .slt r 0#32) (IntOp.cmpi .slt m 0#32)) (IntOp.cmpi .ne r 0#32))
    (IntOp.addi r m) r) 0#32

theorem remBit_ofNat : ∀ n : Fin 1536, remBit (BitVec.ofNat 32 n.val) = BitVec.ofBool (decide (n.val % 768 = 0)) := by
  decide +kernel

/-- The square of ones at a cell. -/
theorem revM_at (i j : Fin 768) : revM (F := Ideal) (ix2 i j) = if (i.val + j.val) % 768 = 0 then (1 : EReal) else 0 := by
  have e : revM (F := Ideal) (ix2 i j) = Scalar.select (remBit (BitVec.ofNat 32 i.val + BitVec.ofNat 32 j.val))
      (Scalar.ofBits (F := Ideal) .f32 0x3F800000#32) (Scalar.ofBits (F := Ideal) .f32 0x00000000#32) := by
    unfold revM
    sl_unfold_words
    pointwise
    rfl
  rw [e, ← BitVec.ofNat_add, remBit_ofNat ⟨i.val + j.val, by omega⟩, select_bit]
  by_cases h : (i.val + j.val) % 768 = 0
  · rw [if_pos h, if_pos (decide_eq_true h)]
    pointwise
  · rw [if_neg h, decide_eq_false h, if_neg Bool.false_ne_true]
    pointwise

/-- The lane whose sum with `j` is a multiple of 768. -/
def neg (j : Fin 768) : Fin 768 := ⟨(768 - j.val) % 768, Nat.mod_lt _ (by decide)⟩

/-- A sum against the square of ones picks the opposite lane's term. -/
theorem sum_revM (f : Fin 768 → EReal) (j : Fin 768) : ∑ k : Fin 768, f k * revM (F := Ideal) (ix2 k j) = f (neg j) := by
  rw [Finset.sum_eq_single (neg j)]
  · rw [revM_at, if_pos (by show ((768 - j.val) % 768 + j.val) % 768 = 0; omega), mul_one]
  · intro k _ hk
    rw [revM_at, if_neg, mul_zero]
    intro h
    exact hk (Fin.ext (by show k.val = (768 - j.val) % 768; omega))
  · intro h; exact absurd (Finset.mem_univ _) h

/-- The matrix before its rows are turned, at an entry. -/
theorem flat_at (a : Vec Ideal S1x768 .f32) (V : Vec Ideal S768x768 .f32) (r j : Fin 768) :
    flat a V (ix2 r j) = V (ix2 (neg j) r) * mask (lanes a) (neg j) := by
  unfold flat
  pointwise
  rw [sum_revM (fun x => V (ix2 x r)) j, sum_revM (fun x => kmask a (ix2 0 x)) j]
  exact congrArg (V (ix2 (neg j) r) * ·) (congrFun (kmask_at a) (neg j))

/-- Lane `c` turned back by `s` lanes. -/
def back (c : Fin 768) (s : ℕ) : Fin 768 := ⟨(c.val + 768 - s % 768) % 768, Nat.mod_lt _ (by decide)⟩

/-- Bit `k` of a row's number moves its remainder from one power of two to the next. -/
theorem bit_step : ∀ k : Fin 10, ∀ r : Fin 768,
    IntOp.cmpi .ne (IntOp.andi (BitVec.ofNat 32 r.val) (BitVec.ofNat 32 (2 ^ k.val))) 0#32
        = BitVec.ofBool (decide (r.val % 2 ^ (k.val + 1) ≠ r.val % 2 ^ k.val))
      ∧ (r.val % 2 ^ (k.val + 1) ≠ r.val % 2 ^ k.val → r.val % 2 ^ (k.val + 1) = r.val % 2 ^ k.val + 2 ^ k.val)
      ∧ (BitVec.ofNat 32 (2 ^ k.val)).toNat = 2 ^ k.val ∧ r.val % 2 ^ (k.val + 1) < 768 := by
  decide +kernel

/-- Rows turned by their numbers' low `k` bits, turned once more where bit `k` is set, are turned by the low `k + 1` bits. -/
theorem rollIf_turn (k : Fin 10) (f g : FVec Ideal S768x768 .f32)
    (h : ∀ r c : Fin 768, f (ix2 r c) = g (ix2 r (back c (r.val % 2 ^ k.val)))) (r c : Fin 768) :
    rollIf (BitVec.ofNat 32 (2 ^ k.val)) f (ix2 r c) = g (ix2 r (back c (r.val % 2 ^ (k.val + 1)))) := by
  obtain ⟨h1, h2, h3, h4⟩ := bit_step k r
  unfold rollIf
  pointwise
  rw [h1, select_bit]
  by_cases hb : r.val % 2 ^ (k.val + 1) ≠ r.val % 2 ^ k.val
  · rw [if_pos (decide_eq_true hb), h]
    have h5 := h2 hb
    congr 2
    refine Fin.ext ?_
    show ((c.val + 768 - (BitVec.ofNat 32 (2 ^ k.val)).toNat % 768) % 768 + 768 - r.val % 2 ^ k.val % 768) % 768
      = (c.val + 768 - r.val % 2 ^ (k.val + 1) % 768) % 768
    rw [h3]
    generalize r.val % 2 ^ (k.val + 1) = u at *
    generalize r.val % 2 ^ k.val = w at *
    generalize 2 ^ k.val = z at *
    omega
  · rw [decide_eq_false hb, if_neg Bool.false_ne_true, h, not_not.1 hb]

/-- The assembled matrix at an entry. -/
theorem kW_at (a : Vec Ideal S1x768 .f32) (V : Vec Ideal S768x768 .f32) (r c : Fin 768) :
    kW a V (ix2 r c) = weight (lanes a) (fun i j => V (ix2 i j)) r c := by
  have t := rollIf_turn 9 _ _ (rollIf_turn 8 _ _ (rollIf_turn 7 _ _ (rollIf_turn 6 _ _ (rollIf_turn 5 _ _
    (rollIf_turn 4 _ _ (rollIf_turn 3 _ _ (rollIf_turn 2 _ _ (rollIf_turn 1 _ _ (rollIf_turn 0 (flat a V) (flat a V)
      (fun r c => by rw [show back c (r.val % 2 ^ (0 : Fin 10).val) = c from Fin.ext (by
        show (c.val + 768 - r.val % 1 % 768) % 768 = c.val; omega)]))))))))))  r c
  refine Eq.trans t ?_
  rw [flat_at]
  have e : neg (back c (r.val % 2 ^ ((9 : Fin 10).val + 1))) = diag r c := Fin.ext (by
    show (768 - (c.val + 768 - r.val % 1024 % 768) % 768) % 768 = (r.val + 768 - c.val) % 768
    omega)
  rw [e]
  rfl

/-- The product a point stores, at an entry. -/
theorem pay2_at (x : Vec Ideal S2048x768 .f32) (W : Vec Ideal S768x768 .f32) (n : Fin 2048) (r : Fin 768) :
    k0_pay2 x W (ix2 n r) = ∑ c : Fin 768, x (ix2 n c) * W (ix2 r c) := by
  unfold k0_pay2
  pointwise

end Cert.KernelIdeal.Own
-- ==== Proof.KPoint.lean ====
module
public import proofs.«01_k».proof.Proof.KStep
public import Idealize.ShloMosaic.Lib.Pipeline.ValueKit
@[expose] public section

/-! What one point of the grid leaves: the first assembles the matrix in the scratch, and each multiplies its block
of rows by it. -/

noncomputable section
namespace Cert.KernelIdeal.Own
open Cert.KernelIdeal Cert.KernelIdeal.Gen Idealize.ShloMosaic Idealize.ShloMosaic.TcCoe Idealize.SL.Sem
open Idealize.ShloMosaic.Pipeline (Dat Cfg Window)

variable {F : FTy → Type} [FloatOps F] [Named F]

variable (c : Dev nD) (i : grid0.Coords) (arg1 : Memref sig .tc .vmem S1x768 .f32) (h1 : arg1.IsWhole)
  (arg2 : Memref sig .tc .vmem S768x768 .f32) (h2 : arg2.IsWhole) (arg3 : Memref sig .tc .vmem S2048x768 .f32)
  (h3 : arg3.IsWhole) (arg4 : Memref sig .tc .vmem S2048x768 .f32) (h4 : arg4.IsWhole)
  (arg5 : Memref sig .tc .vmem S768x768 .f32) (h5 : arg5.IsWhole)
  (x0 : Vec F S1x768 .f32) (x1 : Vec F S768x768 .f32) (x2 : Vec F S2048x768 .f32)

/-- What the first point stores in the scratch is `kW` of the blocks. -/
theorem stored' : k0_pay1 (kernelRun0_A.sl.r_5 c arg1 h1 arg2 h2 x0 x1) (kernelRun0_A.sl.r_6 c arg1 h1 arg2 h2 x0 x1)
    (k0_pay373 kernelRun0_A.sl.v2023) = kW x0 x1 := by
  rw [stored c arg1 h1 arg2 h2 x0 x1]
  simp (disch := decide) only [View.readAt_eq_ld, View.ld_unit_lit', Memref.IsWhole.read_unread]

/-- The scratch after the first point: `kW` of the blocks. -/
theorem scratch_first (hc : cond0_0 i) : sout0_A_0 c i arg1 h1 arg2 h2 arg3 h3 arg4 h4 arg5 h5 hc x0 x1 x2 = kW x0 x1 := by
  unfold sout0_A_0
  rw [View.read_writes_junk_eq_canon]
  show View.canon (kernelRun0_A.sl.HS0_1 c arg1 h1 arg2 h2 x0 x1) = _
  unfold kernelRun0_A.sl.HS0_1
  rw [stored']
  simp (disch := decide) only [View.canon_cons_unit_lit']

/-- The output block after the first point: the rows by the matrix just assembled. -/
theorem out_first (hc : cond0_0 i) :
    out0_A_3 c i arg1 h1 arg2 h2 arg3 h3 arg4 h4 arg5 h5 hc x0 x1 x2 = k0_pay2 x2 (kW x0 x1) := by
  unfold out0_A_3
  rw [View.read_writes_junk_eq_canon]
  have e : (kernelRun0_A c i arg1 h1 arg2 h2 arg3 h3 arg4 h4 arg5 h5 hc x0 x1 x2).1
      = [⟨Rect.unit (s := S2048x768) ![0, 0] S2048x768.size inb_S2048x768_S2048x768_0_0,
          k0_pay2 (View.readAt (Elt F) arg3.view (Rect.unit (s := S2048x768) ![0, 0] S2048x768.size
            inb_S2048x768_S2048x768_0_0).toLoadRect (h3.unread x2)) (kernelRun0_A.sl.v4 c arg1 h1 arg2 h2 arg5 x0 x1)⟩] := rfl
  rw [e]
  unfold kernelRun0_A.sl.v4 kernelRun0_A.sl.HS0_1
  rw [stored']
  simp (disch := decide) only [View.canon_cons_unit_lit', View.readAt_eq_ld, View.ld_unit_lit', View.readCov_unit_lit',
    Memref.IsWhole.read_unread]

/-- The output block after a later point: the rows by what the scratch held. -/
theorem out_later (hc : ¬ cond0_0 i) (xs : Vec F S768x768 .f32) :
    out0_B_3 c i arg1 h1 arg2 h2 arg3 h3 arg4 h4 arg5 h5 hc x0 x1 x2 xs = k0_pay2 x2 xs := by
  frame_out

end Cert.KernelIdeal.Own
-- ==== Proof.KValue.lean ====
module
public import proofs.«01_k».proof.Proof.KMat
public import proofs.«01_k».proof.Proof.KPoint
public import proofs.«01_k».proof.Proof.Gen.KernelIdeal.Value
public import Idealize.ShloMosaic.Lib.Claim
@[expose] public section

/-! What the kernel's result array holds after its run, entry by entry. -/

noncomputable section
namespace Cert.KernelIdeal.Own
open Cert.KernelIdeal Cert.KernelIdeal.Gen Idealize.ShloMosaic Idealize.ShloMosaic.TcCoe Idealize.SL.Sem
open Cert.Lane

variable (m : (ℓ : Loc nD τ sig) → Buf (Elt Ideal) ℓ) (c : Dev nD)

/-- The grid's four points read alpha's row and V whole, and the rows of x in order. -/
theorem index_facts : ∀ t : Fin grid0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 := by decide +kernel

/-- Every point's block of alpha is alpha. -/
theorem alpha_block (t : Fin cfg0.N) : lanes (iblk m c 0 t) = fun j => m ((c : Thread nD τ).loc main_arg2) (ix1 j) := by
  obtain ⟨h0, h1, -⟩ := index_facts t
  funext j
  show iblk m c 0 t (ix2 0 j) = _
  unfold iblk
  rw [View.read_apply]
  show V m c main_call0_v0 _ = _
  have e : ((cfg0.win 0).blk t).view.emb (ix2 (0 : Fin 1) j) = (ix2 (0 : Fin 1) j : S1x768.Idx) := by
    funext a
    apply Fin.ext
    match a with
    | ⟨0, _⟩ => show win0_0.index t 0 * 1 + 1 * 0 = 0; rw [h0]
    | ⟨1, _⟩ => show win0_0.index t 1 * 768 + 1 * j.val = j.val; rw [h1]; omega
  rw [e]
  entry_read
  pointwise

/-- Every point's block of V is V. -/
theorem V_block (t : Fin cfg0.N) : iblk m c 1 t = m ((c : Thread nD τ).loc main_arg1) := by
  obtain ⟨-, -, h0, h1, -⟩ := index_facts t
  funext j
  unfold iblk
  rw [View.read_apply]
  show V m c main_arg1 _ = _
  rw [V_main_arg1]
  congr 1
  funext a
  apply Fin.ext
  match a with
  | ⟨0, _⟩ => show win0_1.index t 0 * 768 + 1 * (j 0).val = (j 0).val; rw [h0]; omega
  | ⟨1, _⟩ => show win0_1.index t 1 * 768 + 1 * (j 1).val = (j 1).val; rw [h1]; omega

/-- A point's block of x is its 2048 rows. -/
theorem x_block (t : Fin cfg0.N) (n : Fin 2048) (k : Fin 768) (h : t.val * 2048 + n.val < 8192) :
    iblk m c 2 t (ix2 n k) = m ((c : Thread nD τ).loc main_arg0) (ix2 ⟨t.val * 2048 + n.val, h⟩ k) := by
  obtain ⟨-, -, -, -, h0, h1⟩ := index_facts t
  unfold iblk
  rw [View.read_apply]
  show V m c main_arg0 _ = _
  rw [V_main_arg0]
  congr 1
  funext a
  apply Fin.ext
  match a with
  | ⟨0, _⟩ => show win0_2.index t 0 * 2048 + 1 * n.val = t.val * 2048 + n.val; rw [h0]; omega
  | ⟨1, _⟩ => show win0_2.index t 1 * 768 + 1 * k.val = k.val; rw [h1]; omega

/-- The matrix every point finds or leaves in the scratch. -/
def theW : FVec Ideal S768x768 .f32 := kW (iblk m c 0 ⟨0, by decide⟩) (iblk m c 1 ⟨0, by decide⟩)

/-- What each point leaves: its rows times the matrix, and the matrix. -/
theorem outs : ∀ (n : ℕ) (hn : n < cfg0.N), outsAt0 m c n hn = (k0_pay2 (iblk m c 2 ⟨n, hn⟩) (theW m c), theW m c) := by
  intro n
  induction n with
  | zero =>
    intro hn
    rw [outsAt0_A m c ⟨0, hn⟩ (Nat.zero_mod _), out_first, scratch_first]
    rfl
  | succ n ih =>
    intro hn
    have hN := lt_of_lt_of_eq hn (show cfg0.N = 4 from N_0)
    rw [outsAt0_B m c ⟨n + 1, hn⟩ (by show ¬ (n + 1) % 4 = 0; omega), out_later]
    have e := ih (Nat.lt_of_succ_lt hn)
    refine Prod.ext ?_ ?_
    · show k0_pay2 _ (outsAt0 m c n _).2 = _
      rw [e]
    · show (outsAt0 m c n _).2 = _
      rw [e]

/-- The kernel's result at an entry. -/
theorem result_at (i : Fin 8192) (r : Fin 768) : Value.G3 m c (ix2 i r) =
    out (fun n k => m ((c : Thread nD τ).loc main_arg0) (ix2 n k)) (fun n k => m ((c : Thread nD τ).loc main_arg1) (ix2 n k))
      (fun k => m ((c : Thread nD τ).loc main_arg2) (ix1 k)) i r := by
  have hi := i.isLt
  have hr := r.isLt
  have hp : Value.pt3Of (ix2 i r) = i.val / 2048 := by
    show 1 * (i.val / 2048 - 0) + 1 * (r.val / 768 - 0) = _
    omega
  have hlt : i.val / 2048 < cfg0.N := by rw [show cfg0.N = 4 from N_0]; omega
  unfold Value.G3
  rw [dif_pos (by rw [hp]; exact hlt), Value.fold0_congr m c _ _ _ (by omega) hp, ← Value.outsAt0_sweep m c _ hlt, outs]
  have hl : Value.loc3Of (ix2 i r) = ix2 (⟨i.val % 2048, Nat.mod_lt _ (by decide)⟩ : Fin 2048) r := by
    funext a
    apply Fin.ext
    match a with
    | ⟨0, _⟩ => rfl
    | ⟨1, _⟩ => show r.val % 768 = r.val; omega
  rw [hl]
  show k0_pay2 _ _ _ = _
  rw [pay2_at]
  unfold out
  refine Finset.sum_congr rfl fun k _ => ?_
  rw [x_block m c _ _ _ (by show i.val / 2048 * 2048 + i.val % 2048 < 8192; omega)]
  unfold theW
  rw [kW_at, alpha_block, V_block]
  congr 3
  exact Fin.ext (by show i.val / 2048 * 2048 + i.val % 2048 = i.val; omega)

end Cert.KernelIdeal.Own
-- ==== Proof.Pairs.lean ====
module
public import proofs.«01_k».proof.Proof.Spec
@[expose] public section

/-! The averagings read off tables of pairs, as the reference takes them. -/

noncomputable section
namespace Cert.Lane
open Idealize.ShloMosaic

theorem avgE_even (y : Ln) (j : Fin 768) (h : j.val % 2 = 0) : avgE y j = mix (y j) (y (nxt j)) (y j) := if_pos h

theorem avgE_odd (y : Ln) (j : Fin 768) (h : ¬ j.val % 2 = 0) : avgE y j = mix (y (prv j)) (y j) (y j) := if_neg h

theorem avgO_end (y : Ln) (j : Fin 768) (h : ¬ (0 < j.val ∧ j.val < 767)) : avgO y j = y j := if_neg h

theorem avgO_even (y : Ln) (j : Fin 768) (h : 0 < j.val ∧ j.val < 767) (h' : j.val % 2 = 0) :
    avgO y j = mix (y (prv j)) (y j) (y j) := (if_pos h).trans (if_pos h')

theorem avgO_odd (y : Ln) (j : Fin 768) (h : 0 < j.val ∧ j.val < 767) (h' : ¬ j.val % 2 = 0) :
    avgO y j = mix (y j) (y (nxt j)) (y j) := (if_pos h).trans (if_neg h')

/-- The even averaging off the pairs' table: lane `j` is cell `j % 2` of pair `j / 2`. -/
theorem avgE_pairs (y : Ln) (j : Fin 768) (h1 : j.val / 2 * 2 < 768) (h2 : j.val / 2 * 2 + 1 < 768) :
    (if _ : j.val % 2 < 1 then
        if y ⟨j.val / 2 * 2, h1⟩ < y ⟨j.val / 2 * 2 + 1, h2⟩ then half * (y ⟨j.val / 2 * 2, h1⟩ + y ⟨j.val / 2 * 2 + 1, h2⟩)
        else y ⟨j.val / 2 * 2, h1⟩
      else
        if y ⟨j.val / 2 * 2, h1⟩ < y ⟨j.val / 2 * 2 + 1, h2⟩ then half * (y ⟨j.val / 2 * 2, h1⟩ + y ⟨j.val / 2 * 2 + 1, h2⟩)
        else y ⟨j.val / 2 * 2 + 1, h2⟩) = avgE y j := by
  by_cases hp : j.val % 2 < 1
  · have e1 : (⟨j.val / 2 * 2, h1⟩ : Fin 768) = j := Fin.ext (by show j.val / 2 * 2 = j.val; omega)
    have e2 : (⟨j.val / 2 * 2 + 1, h2⟩ : Fin 768) = nxt j := Fin.ext (by show j.val / 2 * 2 + 1 = (j.val + 1) % 768; omega)
    rw [avgE_even y j (by omega), e1, e2, dif_pos hp]
    rfl
  · have e1 : (⟨j.val / 2 * 2, h1⟩ : Fin 768) = prv j := Fin.ext (by show j.val / 2 * 2 = (j.val + 767) % 768; omega)
    have e2 : (⟨j.val / 2 * 2 + 1, h2⟩ : Fin 768) = j := Fin.ext (by show j.val / 2 * 2 + 1 = j.val; omega)
    rw [avgE_odd y j (by omega), e1, e2, dif_neg hp]
    rfl

/-- The odd averaging off the table of the inner lanes' pairs, the end lanes beside it. -/
theorem avgO_pairs (y : Ln) (j : Fin 768) (h1 : 1 + (j.val - 1) / 2 * 2 < 768) (h2 : j.val - 1 < 766 → 1 + ((j.val - 1) / 2 * 2 + 1) < 768)
    (h3 : 767 + (j.val - 1 - 766) < 768) :
    (if _ : j.val < 1 then y j
      else
        if g : j.val - 1 < 766 then
          if _ : (j.val - 1) % 2 < 1 then
            if y ⟨1 + (j.val - 1) / 2 * 2, h1⟩ < y ⟨1 + ((j.val - 1) / 2 * 2 + 1), h2 g⟩ then
              half * (y ⟨1 + (j.val - 1) / 2 * 2, h1⟩ + y ⟨1 + ((j.val - 1) / 2 * 2 + 1), h2 g⟩)
            else y ⟨1 + (j.val - 1) / 2 * 2, h1⟩
          else
            if y ⟨1 + (j.val - 1) / 2 * 2, h1⟩ < y ⟨1 + ((j.val - 1) / 2 * 2 + 1), h2 g⟩ then
              half * (y ⟨1 + (j.val - 1) / 2 * 2, h1⟩ + y ⟨1 + ((j.val - 1) / 2 * 2 + 1), h2 g⟩)
            else y ⟨1 + ((j.val - 1) / 2 * 2 + 1), h2 g⟩
        else y ⟨767 + (j.val - 1 - 766), h3⟩) = avgO y j := by
  by_cases h0 : j.val < 1
  · rw [dif_pos h0, avgO_end y j (by omega)]
  · rw [dif_neg h0]
    by_cases g : j.val - 1 < 766
    · rw [dif_pos g]
      by_cases hp : (j.val - 1) % 2 < 1
      · have e1 : (⟨1 + (j.val - 1) / 2 * 2, h1⟩ : Fin 768) = j := Fin.ext (by show 1 + (j.val - 1) / 2 * 2 = j.val; omega)
        have e2 : (⟨1 + ((j.val - 1) / 2 * 2 + 1), h2 g⟩ : Fin 768) = nxt j :=
          Fin.ext (by show 1 + ((j.val - 1) / 2 * 2 + 1) = (j.val + 1) % 768; omega)
        rw [avgO_odd y j (by omega) (by omega), e1, e2, dif_pos hp]
        rfl
      · have e1 : (⟨1 + (j.val - 1) / 2 * 2, h1⟩ : Fin 768) = prv j :=
          Fin.ext (by show 1 + (j.val - 1) / 2 * 2 = (j.val + 767) % 768; omega)
        have e2 : (⟨1 + ((j.val - 1) / 2 * 2 + 1), h2 g⟩ : Fin 768) = j :=
          Fin.ext (by show 1 + ((j.val - 1) / 2 * 2 + 1) = j.val; omega)
        rw [avgO_even y j (by omega) (by omega), e1, e2, dif_neg hp]
        rfl
    · rw [dif_neg g, avgO_end y j (by omega), show (⟨767 + (j.val - 1 - 766), h3⟩ : Fin 768) = j from Fin.ext (by
        show 767 + (j.val - 1 - 766) = j.val; omega)]

end Cert.Lane
-- ==== Proof.RLoop.lean ====
module
public import proofs.«01_k».proof.Proof.Gen.ReferenceIdeal.Run
public import proofs.«01_k».proof.Proof.Pairs
public import Idealize.ShloMosaic.Lib.Pointwise
@[expose] public section

/-! The reference's loop read lane by lane, over the extended reals. -/

noncomputable section
namespace Cert.ReferenceIdeal.Own
open Cert.ReferenceIdeal Cert.ReferenceIdeal.Gen Cert.ReferenceIdeal.Value Idealize.ShloMosaic Idealize.ShloMosaic.TcCoe Idealize.SL.Sem
open Cert.Lane

/-- A vector by its lanes. -/
def lanes (y : FVec Ideal S768 .f32) : Ln := fun j => y (ix1 j)

/-- A trip's even projection is the even averaging of the point plus its correction. -/
theorem even_at (V0 : Valuation τ sig (Elt Ideal)) :
    lanes (res_main_while0b_v85 V0) = avgE (lanes (addf (F := Ideal) (s := S768) (φ := .f32) (V0 (Proc.devRef .tc main_v18_1)) (V0 (Proc.devRef .tc main_v18_2)))) := by
  funext j
  show res_main_while0b_v85 V0 (ix1 j) = _
  unfold res_main_while0b_v85 res_main_while0b_v75 res_main_while0b_v70 res_main_while0b_v63
  generalize addf (F := Ideal) (s := S768) (φ := .f32) (V0 (Proc.devRef .tc main_v18_1)) (V0 (Proc.devRef .tc main_v18_2)) = y
  pointwise
  have hj := j.isLt
  exact avgE_pairs (lanes y) j (by omega) (by omega)

/-- A trip's odd projection is the odd averaging of what it is given. -/
theorem odd_at (V0 : Valuation τ sig (Elt Ideal)) :
    lanes (res_main_while0b_v115 V0) = avgO (lanes (res_main_while0b_v88 V0)) := by
  funext j
  show res_main_while0b_v115 V0 (ix1 j) = _
  have hj := j.isLt
  unfold res_main_while0b_v115 res_main_while0b_v102 res_main_while0b_v97 res_main_while0b_v90
  obtain ⟨y, hy⟩ : ∃ y : FVec Ideal S768 .f32, y = res_main_while0b_v88 V0 := ⟨_, rfl⟩
  rw [← hy]
  pointwise
  exact avgO_pairs (lanes y) j (by omega) (by omega) (by omega)

/-- The carried buffers by their lanes. -/
def carried (V0 : Valuation τ sig (Elt Ideal)) : Lane.St :=
  ⟨lanes (V0 (Proc.devRef .tc main_v18_1)), lanes (V0 (Proc.devRef .tc main_v18_2)), lanes (V0 (Proc.devRef .tc main_v18_3))⟩

/-- One trip is one step on the carried lanes. -/
theorem carried_STEP (V0 : Valuation τ sig (Elt Ideal)) : carried (STEP V0) = step (carried V0) := by
  have e := even_at V0
  have o := odd_at V0
  have a : lanes (addf (F := Ideal) (s := S768) (φ := .f32) (V0 (Proc.devRef .tc main_v18_1)) (V0 (Proc.devRef .tc main_v18_2)))
      = fun j => (carried V0).v j + (carried V0).p j := rfl
  have b : lanes (res_main_while0b_v88 V0) = fun j => lanes (res_main_while0b_v85 V0) j + (carried V0).q j := rfl
  rw [b, e, a] at o
  rw [a] at e
  unfold carried step
  rw [STEP_main_v18_1, STEP_main_v18_2, STEP_main_v18_3]
  refine congr (congr (congrArg Lane.St.mk ?_) ?_) ?_
  · exact o
  · funext j
    exact congrArg (fun z : Ln => (carried V0).v j + (carried V0).p j - z j) e
  · funext j
    exact congrArg₂ (fun z w : Ln => z j + (carried V0).q j - w j) e o

/-- The trips are the steps on the carried lanes. -/
theorem carried_iter (n : ℕ) (V0 : Valuation τ sig (Elt Ideal)) : carried (STEP^[n] V0) = step^[n] (carried V0) := by
  induction n with
  | zero => rfl
  | succ n ih => rw [Function.iterate_succ_apply', Function.iterate_succ_apply', carried_STEP, ih]

end Cert.ReferenceIdeal.Own
-- ==== Proof.RKeep.lean ====
module
public import proofs.«01_k».proof.Proof.RLoop
@[expose] public section

/-! What the reference's loop leaves behind: the carried point after the fifty trips, and every buffer no trip writes. -/

noncomputable section
namespace Cert.ReferenceIdeal.Own
open Cert.ReferenceIdeal Cert.ReferenceIdeal.Gen Cert.ReferenceIdeal.Value Idealize.ShloMosaic Idealize.ShloMosaic.TcCoe Idealize.ShloMosaic.StableHlo Idealize.SL.Sem
open Cert.Lane

/-- The buffers a trip of the loop writes, the condition's among them. -/
def tripWrites : List (Ref sig .tc) :=
  condOps_W ++ while0Ops0_W ++ while0Ops0_1_W ++ while0Ops0_2_W ++ while0Ops0_3_W ++ while0Ops0_4_W ++ while0Ops0_5_W
    ++ while0Ops0_6_W ++ while0Ops0_7_W ++ while0Ops0_8_W

/-- The loop's condition leaves a buffer no trip writes. -/
theorem cond_leaves (V : Valuation τ sig (Elt Ideal)) (r : Ref sig .tc) (h : r ∉ tripWrites) :
    after condOps V (Proc.devRef .tc r) = V (Proc.devRef .tc r) :=
  after_of_writes_sub condOps V condOps_writes fun k => h (by simp only [tripWrites, List.mem_append]; tauto)

/-- The loop's body leaves a buffer no trip writes. -/
theorem body_leaves (V : Valuation τ sig (Elt Ideal)) (r : Ref sig .tc) (h : r ∉ tripWrites) :
    afterL bodyI V (Proc.devRef .tc r) = V (Proc.devRef .tc r) := by
  simp only [tripWrites, List.mem_append, not_or] at h
  obtain ⟨⟨⟨⟨⟨⟨⟨⟨⟨-, h0⟩, h1⟩, h2⟩, h3⟩, h4⟩, h5⟩, h6⟩, h7⟩, h8⟩ := h
  simp only [afterL_cons, afterL_nil]
  rw [after_of_writes_sub _ _ while0Ops0_8_writes h8, after_of_writes_sub _ _ while0Ops0_7_writes h7,
    after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0]

/-- However many trips have run, a buffer no trip writes holds what it held at the entry. -/
theorem trips_leave (m : (ℓ : Loc nD τ sig) → Buf (Elt Ideal) ℓ) (c : Dev nD) (r : Ref sig .tc) (h : r ∉ tripWrites) (n : ℕ) :
    atK m n c (Proc.devRef .tc r) = entryContents preI m c (Proc.devRef .tc r) := by
  induction n with
  | zero => rfl
  | succ n ih =>
    rw [show atK m (n + 1) c = afterL bodyI (after condOps (atK m n c)) from rfl, body_leaves _ r h, cond_leaves _ r h, ih]

/-- The buffers when the loop has ended. -/
def ended (m : (ℓ : Loc nD τ sig) → Buf (Elt Ideal) ℓ) (c : Dev nD) : Valuation τ sig (Elt Ideal) :=
  after condOps (atK m 50 c)

/-- When the loop has ended, a buffer no trip writes holds what it held at the entry. -/
theorem ended_leaves (m : (ℓ : Loc nD τ sig) → Buf (Elt Ideal) ℓ) (c : Dev nD) (r : Ref sig .tc) (h : r ∉ tripWrites) :
    ended m c (Proc.devRef .tc r) = entryContents preI m c (Proc.devRef .tc r) := by
  rw [ended, cond_leaves _ r h, trips_leave m c r h]

/-- When the loop has ended, the carried point is fifty steps from the entry's. -/
theorem ended_point (m : (ℓ : Loc nD τ sig) → Buf (Elt Ideal) ℓ) (c : Dev nD) :
    lanes (ended m c (Proc.devRef .tc main_v18_1)) = (step^[50] (carried (entryContents preI m c))).v := by
  rw [← carried_iter]
  have h : ended m c (Proc.devRef .tc main_v18_1) = STEP^[50] (entryContents preI m c) (Proc.devRef .tc main_v18_1) :=
    (cond_keeps (atK m 50 c) main_v18_1 (by decide)).trans (atK_agree m c 50 main_v18_1 (by decide))
  rw [h]
  rfl

end Cert.ReferenceIdeal.Own
-- ==== Proof.RSort.lean ====
module
public import proofs.«01_k».proof.ReferenceIdeal
public import Idealize.ShloMosaic.Lib.SortFacts
public import Idealize.ShloMosaic.Lib.Pointwise
@[expose] public section

/-! A stable sort of what is already in order changes nothing: read for the reference's two argsorts. -/

noncomputable section
namespace Cert.ReferenceIdeal.Own
open Cert.ReferenceIdeal Idealize.ShloMosaic

/-- Inserting what no element precedes puts it in front. -/
theorem insert_front {ι : Type} (before : ι → ι → Bool) (a : ι) (l : List ι) (h : ∀ b ∈ l, before b a = false) :
    insertBefore before a l = a :: l := by
  cases l with
  | nil => rfl
  | cons b l => unfold insertBefore; rw [h b (by simp)]; rfl

/-- A list none of whose later elements precedes an earlier one is its own stable sort. -/
theorem sort_ordered {ι : Type} (before : ι → ι → Bool) (l : List ι) (h : l.Pairwise fun a b => before b a = false) :
    stableSort before l = l := by
  induction l with
  | nil => rfl
  | cons a l ih =>
    rw [List.pairwise_cons] at h
    unfold stableSort
    rw [ih h.2, insert_front before a l h.1]

/-- Positions in order sort to themselves. -/
theorem sorted_in_place {n : ℕ} (before : Fin n → Fin n → Bool) (h : ∀ i j, i < j → before j i = false) (k : Fin n) :
    sortedFrom before k = k := by
  have e : sortPositions n before = List.finRange n :=
    sort_ordered before _ ((List.pairwise_lt_finRange n).imp fun {a b} hab => h a b hab)
  unfold sortedFrom
  rw [List.get_of_eq e]
  simp

/-- A vector of pairs already in order keeps its second components. -/
theorem pairs_in_place {α β : Type} (cmp : α × β → α × β → BitVec 1) (x : S768.Idx → α) (y : S768.Idx → β)
    (h : ∀ i j : Fin 768, i < j → cmp (x (ix1 j), y (ix1 j)) (x (ix1 i), y (ix1 i)) = 0#1) :
    (Host.sort2 S768 0 cmp x y).2 = y := by
  have al : ∀ (j : S768.Idx) (k : Fin 768), j.along (0 : Fin 1) k = ix1 k := by
    intro j k
    rw [Shape.Idx.along_rank1]
    funext a
    have : a = 0 := Subsingleton.elim _ _
    subst this
    rfl
  funext j
  have e := sorted_in_place (fun k k' : Fin 768 => cmp (x (j.along (0 : Fin 1) k), y (j.along (0 : Fin 1) k)) (x (j.along (0 : Fin 1) k'), y (j.along (0 : Fin 1) k')) == 1#1)
    (fun i k hik => by
      have hc := h i k hik
      rw [← al j i, ← al j k] at hc
      rw [hc]
      rfl) (j (0 : Fin 1))
  refine (congrArg (fun k : Fin 768 => y (j.along (0 : Fin 1) k)) e).trans ?_
  refine congrArg y ?_
  funext a
  have : a = 0 := Subsingleton.elim _ _
  subst this
  exact Function.update_self ..

/-- The float comparator does not put the greater first. -/
theorem float_not_before (a b : EReal) (u v : BitVec 32) (h : b ≤ a) :
    comparator_f32_i32_d0 (F := Ideal) (a, u) (b, v) = 0#1 := by
  have z : FloatOps.ofBits (F := Ideal) .f32 0#32 = (0 : EReal) := Ideal.ofBits_zero .f32
  have s : ∀ w : EReal, Scalar.select (FloatOps.cmpf (F := Ideal) (φ := .f32) .une w w) (FloatOps.ofBits (F := Ideal) .f32 0x7FC00000#32)
      (Scalar.select (FloatOps.cmpf (F := Ideal) (φ := .f32) .oeq w (FloatOps.ofBits (F := Ideal) .f32 0#32)) (FloatOps.ofBits (F := Ideal) .f32 0#32) w) = w := by
    intro w
    rw [z]
    by_cases hw : w = 0
    · subst hw
      simp [Scalar.select, FloatOps.cmpf, Ideal.cmp]
    · simp [Scalar.select, FloatOps.cmpf, Ideal.cmp, hw]
  unfold comparator_f32_i32_d0
  dsimp only
  rw [s, s]
  rw [Ideal.cmpfTotal_def]
  have : ¬ a < b := not_lt.mpr h
  simp [Ideal.cmp, CmpDirection.ordered, this]

/-- The integer comparator does not put the greater position first. -/
theorem int_not_before (i j : Fin 768) (hij : i < j) (u v : BitVec 32) :
    comparator_i32_i32_d0 (BitVec.ofNat 32 j, u) (BitVec.ofNat 32 i, v) = 0#1 := by
  unfold comparator_i32_i32_d0
  have hi := i.isLt
  have hj := j.isLt
  have ho : ∀ n : ℕ, n < 768 → (BitVec.ofNat 32 n).toInt = n := by
    intro n hn
    rw [BitVec.toInt_eq_toNat_of_lt (by rw [BitVec.toNat_ofNat]; omega), BitVec.toNat_ofNat]
    omega
  have : BitVec.slt (BitVec.ofNat 32 j) (BitVec.ofNat 32 i) = false := by
    rw [BitVec.slt, ho _ hi, ho _ hj]
    simp
    omega
  simp [IntOp.cmpi, this]

end Cert.ReferenceIdeal.Own
-- ==== Proof.ROps.lean ====
module
public import proofs.«01_k».proof.ReferenceIdeal
public import proofs.«01_k».proof.Proof.Spec
public import Idealize.ShloMosaic.Lib.StableHlo.Predicate
public import Idealize.ShloMosaic.Lib.Routing.OpsPair
public import Idealize.ShloMosaic.Lib.Pointwise
@[expose] public section

/-! The reference's indexed operations read at one element: the two gathers and the accumulating scatter. -/

noncomputable section
namespace Cert.ReferenceIdeal.Own
open Cert.ReferenceIdeal Idealize.ShloMosaic
open Cert.Lane

variable [Facts₀]

/-- Every rank-1 index is its coordinate's. -/
theorem ix1_of (j : S768.Idx) : j = ix1 (j (0 : Fin 1) : Fin 768) := by
  funext a
  obtain rfl : a = 0 := Subsingleton.elim _ _
  rfl

/-- Taking a vector at the positions in order gives the vector. -/
theorem take_in_order {α : Type} (x : S768.Idx → α) (idx : IVec S768x1 32) (h : ∀ k : Fin 768, (idx (ix2 k (0 : Fin 1))).toInt = k) :
    Host.gather gather_S768_S768x1_S768_n_0_n_n_0_1_1 x idx = x := by
  funext j
  obtain ⟨k, rfl⟩ : ∃ k : Fin 768, j = (ix1 k : S768.Idx) := ⟨_, ix1_of j⟩
  have e : (ix1 k : S768.Idx) = Shape.Idx.ofFin k := by
    funext a
    obtain rfl : a = 0 := Subsingleton.elim _ _
    rfl
  have p : (StableHlo.Predicate.ixP k : S768x1.Idx) = ix2 k (0 : Fin 1) := by
    funext a
    match a with
    | ⟨0, _⟩ => rfl
    | ⟨1, _⟩ => rfl
  rw [e]
  refine (StableHlo.Predicate.gather_take gather_S768_S768x1_S768_n_0_n_n_0_1_1 rfl rfl rfl rfl x idx k (by decide)).trans (congrArg x ?_)
  funext a
  obtain rfl : a = 0 := Subsingleton.elim _ _
  have hk := k.isLt
  apply Fin.ext
  show min (idx (StableHlo.Predicate.ixP k)).toInt.toNat (768 - 1) = k
  rw [p, h k]
  omega

/-- Taking along the rows: element `(i, j)` is row `i` at the column the index names, clamped into the row. -/
theorem take_along {α : Type} (x : S768x768.Idx → α) (idx : IVec S768x768x1 32) (i j : Fin 768) :
    Host.gather gather_S768x768_S768x768x1_S768x768_n_1_0_0_1_2_11 x idx (ix2 i j)
      = x (ix2 i (⟨min (idx (ix3 i j (0 : Fin 1))).toInt.toNat 767, by omega⟩ : Fin 768)) := by
  set d := gather_S768x768_S768x768x1_S768x768_n_1_0_0_1_2_11 with hd
  show x (d.operandIdx (ix2 i j) idx) = _
  refine congrArg x ?_
  funext a
  refine Fin.ext ?_
  show d.start (ix2 i j) idx a + d.batchCoord (ix2 i j) a + d.offCoord (ix2 i j) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ d.operandBatchingDims from List.mem_singleton.mpr rfl)]
    rfl
  | ⟨1, _⟩ =>
    rw [GatherDims.batchCoord_eq_zero _ _ _ (fun h => by simp [hd, gather_S768x768_S768x768x1_S768x768_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ d.startIndexMap from List.mem_singleton.mpr rfl)]
    have e : d.siIdx (ix2 i j) ⟨List.idxOf (⟨1, by decide⟩ : Fin 2) d.startIndexMap,
        List.idxOf_lt_length_iff.2 (List.mem_singleton.mpr rfl)⟩ = ix3 i j (0 : Fin 1) := by
      funext b
      refine Fin.ext ?_
      match b with
      | ⟨0, _⟩ => rfl
      | ⟨1, _⟩ => rfl
      | ⟨2, _⟩ => rfl
    rw [e]
    rfl

/-- The row of the one update that lands at row `r`, column `c`. -/
theorem lands_iff (r c i : Fin 768) : ((i : ℕ) + c) % 768 = r ↔ i = diag r c := by
  have hr := r.isLt
  have hc := c.isLt
  have hi := i.isLt
  rw [Fin.ext_iff]
  show _ ↔ (i : ℕ) = (r + 768 - c) % 768
  omega

/-- Adding each update `(i, j)` into row `(i + j) % 768` of column `j` of zeros leaves at row `r`, column `c` the one update on
    that diagonal. -/
theorem spread_at (z upd : FVec Ideal S768x768 .f32) (idx : IVec S768x768x2 32) (hz : ∀ i, z i = (0 : EReal))
    (h0 : ∀ i j : Fin 768, (idx (ix3 i j (0 : Fin 2))).toInt = (((i : ℕ) + j) % 768 : ℕ))
    (h1 : ∀ i j : Fin 768, (idx (ix3 i j (1 : Fin 2))).toInt = (j : ℕ)) (r c : Fin 768) :
    Host.scatterAdd scatter_S768x768_S768x768x2_S768x768_n_01_01_2 z idx upd (ix2 r c) = upd (ix2 (diag r c) c) := by
  show z (ix2 r c) + ∑ k ∈ Finset.univ.filter (fun k => (scatter_S768x768_S768x768x2_S768x768_n_01_01_2).resultIdx? k idx = some (ix2 r c)), upd k = _
  rw [hz, zero_add]
  have e : Finset.univ.filter (fun k => (scatter_S768x768_S768x768x2_S768x768_n_01_01_2).resultIdx? k idx = some (ix2 r c))
      = {(ix2 (diag r c) c : S768x768.Idx)} := by
    ext k
    obtain ⟨i, j, rfl⟩ : ∃ i j : Fin 768, k = ix2 i j := ⟨k 0, k 1, by
      funext a
      match a with
      | ⟨0, _⟩ => rfl
      | ⟨1, _⟩ => rfl⟩
    have l : (scatter_S768x768_S768x768x2_S768x768_n_01_01_2).resultIdx? (ix2 i j) idx = some (ix2 r c)
        ↔ (idx (ix3 i j (0 : Fin 2))).toInt = r.val ∧ (idx (ix3 i j (1 : Fin 2))).toInt = c.val :=
      Routing.scatter_lands2 scatter_S768x768_S768x768x2_S768x768_n_01_01_2 rfl rfl rfl idx i j r c
    rw [h0, h1] at l
    rw [Finset.mem_filter, Finset.mem_singleton]
    constructor
    · rintro ⟨-, q⟩
      obtain ⟨p, q⟩ := l.mp q
      obtain rfl : j = c := Fin.ext (by exact_mod_cast q)
      obtain rfl := (lands_iff r j i).mp (by exact_mod_cast p)
      rfl
    · intro q
      have qi : i = diag r c := congrFun q (0 : Fin 2)
      have qj : j = c := congrFun q (1 : Fin 2)
      subst qj
      refine ⟨Finset.mem_univ _, l.mpr ⟨?_, rfl⟩⟩
      exact_mod_cast (lands_iff r j i).mpr qi
  rw [e, Finset.sum_singleton]

end Cert.ReferenceIdeal.Own
-- ==== Proof.RPre.lean ====
module
public import proofs.«01_k».proof.Proof.RKeep
public import proofs.«01_k».proof.Proof.RSort
public import proofs.«01_k».proof.Proof.ROps
@[expose] public section

/-! What the reference holds when its loop begins, for coefficients that descend. -/

noncomputable section
namespace Cert.ReferenceIdeal.Own
open Cert.ReferenceIdeal Cert.ReferenceIdeal.Gen Cert.ReferenceIdeal.Value Idealize.ShloMosaic Idealize.ShloMosaic.TcCoe Idealize.ShloMosaic.StableHlo Idealize.SL.Sem
open Cert.Lane

/-- The coefficients descend. -/
def Falls (a : Ln) : Prop := ∀ i j : Fin 768, i < j → a j ≤ a i

/-- The positions in order. -/
abbrev order : IVec S768 32 := iotaInDim S768 32 0

/-- The first sort's positions, in terms of what is sorted. -/
theorem positions_of (V : Valuation τ sig (Elt Ideal)) :
    after hostOps0_1 V (main_v1 : DevRef τ sig) = (Host.sort2 S768 0 (comparator_f32_i32_d0 (F := Ideal)) (V (main_v0 : DevRef τ sig) : FVec Ideal S768 .f32) order).2 := by
  after_results
  rfl

/-- What is sorted first. -/
theorem negated_of (V : Valuation τ sig (Elt Ideal)) :
    after hostOps0 V (main_v0 : DevRef τ sig) = (Host.negf (V (main_arg2 : DevRef τ sig) : FVec Ideal S768 .f32) : FVec Ideal S768 .f32) := by
  after_results

/-- One position wrapped: a negative one counts from the end. -/
def wrapWord (x : BitVec 32) : BitVec 32 := Scalar.select (IntOp.cmpi .slt x 0#32) (IntOp.addi x 768#32) x

/-- A position in range wraps to itself. -/
theorem wrapWord_ofNat : ∀ n : Fin 768, wrapWord (BitVec.ofNat 32 n) = BitVec.ofNat 32 n := by
  decide +kernel

/-- A position's word holds the position. -/
theorem word_toInt (n : Fin 768) : (BitVec.ofNat 32 n).toInt = (n : ℕ) := by
  have h := n.isLt
  rw [BitVec.toInt_eq_toNat_of_lt (by rw [BitVec.toNat_ofNat]; omega), BitVec.toNat_ofNat]
  omega

/-- Positions wrapped, as a column. -/
def column (v : IVec S768 32) : IVec S768x1 32 :=
  broadcastInDim S768x1 ![0] bcast_S768_S768x1_0
    (select (cmpi .slt v (broadcastInDim S768 ![] bcast_S_S768 (constantI S_ 32 0#32))) (addi v (broadcastInDim S768 ![] bcast_S_S768 (constantI S_ 32 768#32))) v)

/-- The positions in order, wrapped, are the positions in order. -/
theorem column_order (k : Fin 768) : (column order (ix2 k (0 : Fin 1))).toInt = (k : ℕ) := by
  unfold column
  pointwise
  show (wrapWord (BitVec.ofNat 32 k)).toInt = _
  rw [wrapWord_ofNat, word_toInt]

/-- The divisor of the scores. -/
theorem divisor : Ideal.ofBits .f32 0x3C23D70A#32 = ((5368709 / 536870912 : ℝ) : EReal) := by
  simp [Ideal.ofBits, Ideal.ieee, -EReal.coe_mul]
  norm_num

/-- A quotient by the divisor is a score. -/
theorem divided_at (t : FVec Ideal S768 .f32) (j : Fin 768) :
    Host.divf t (broadcastInDim S768 ![] bcast_S_S768 (constant (F := Ideal) S_ .f32 0x3C23D70A#32)) (ix1 j) = score (lanes t) j := by
  show Ideal.div (t (ix1 j)) (Ideal.ofBits .f32 0x3C23D70A#32) = t (ix1 j) * _
  rw [divisor, Ideal.div_coe (by norm_num)]
  norm_num

/-- The ones over the leading positions. -/
theorem leading_at (j : Fin 768) :
    (uitofp .f32 (cmpi .slt order (broadcastInDim S768 ![] bcast_S_S768 (constantI S_ 32 692#32))) : FVec Ideal S768 .f32) (ix1 j)
      = if j.val < 692 then (1 : EReal) else 0 := by
  have w : ∀ n : Fin 768, IntOp.cmpi .slt (BitVec.ofNat 32 n) 692#32 = BitVec.ofBool (decide (n.val < 692)) := by decide +kernel
  show FloatOps.uitofp (F := Ideal) .f32 (IntOp.cmpi .slt (BitVec.ofNat 32 j) 692#32) = _
  rw [w]
  by_cases h : j.val < 692
  · rw [if_pos h, decide_eq_true h]
    show (((1#1 : BitVec 1).toNat : ℝ) : EReal) = 1
    simp
  · rw [if_neg h, decide_eq_false h]
    show (((0#1 : BitVec 1).toNat : ℝ) : EReal) = 0
    simp

/-- The scores in terms of the sorted positions. -/
theorem taken_of (V : Valuation τ sig (Elt Ideal)) :
    after hostOps0_2 V (main_v8 : DevRef τ sig)
      = (Host.gather gather_S768_S768x1_S768_n_0_n_n_0_1_1 (V (main_arg2 : DevRef τ sig) : FVec Ideal S768 .f32) (column (V (main_v1 : DevRef τ sig))) : FVec Ideal S768 .f32) := by
  after_results
  rfl

/-- The point the loop starts from, in terms of what was taken. -/
theorem point_of (V : Valuation τ sig (Elt Ideal)) :
    lanes (after hostOps0_2 V (main_v18_1 : DevRef τ sig))
      = (start (lanes (Host.gather gather_S768_S768x1_S768_n_0_n_n_0_1_1 (V (main_arg2 : DevRef τ sig) : FVec Ideal S768 .f32) (column (V (main_v1 : DevRef τ sig)))))).v := by
  funext j
  show after hostOps0_2 V (main_v18_1 : DevRef τ sig) (ix1 j) = _
  after_results
  exact congrArg₂ (fun a b : EReal => a - b) (divided_at _ j) (leading_at j)

/-- The corrections the loop starts from are nil. -/
theorem nil_of (V : Valuation τ sig (Elt Ideal)) :
    lanes (after hostOps0_2 V (main_v18_2 : DevRef τ sig)) = (fun _ => 0) ∧ lanes (after hostOps0_2 V (main_v18_3 : DevRef τ sig)) = (fun _ => 0) := by
  constructor
  · funext j
    show after hostOps0_2 V (main_v18_2 : DevRef τ sig) (ix1 j) = _
    after_results
    exact Ideal.ofBits_zero .f32
  · funext j
    show after hostOps0_2 V (main_v18_3 : DevRef τ sig) (ix1 j) = _
    after_results
    exact Ideal.ofBits_zero .f32

/-- For coefficients that descend, the first sort leaves the positions in order. -/
theorem positions_in_order (m : (ℓ : Loc nD τ sig) → Buf (Elt Ideal) ℓ) (c : Dev nD)
    (h : Falls (lanes (launchContents m c (main_arg2 : DevRef τ sig)))) :
    after hostOps0_1 (after hostOps0 (launchContents m c)) (main_v1 : DevRef τ sig) = order := by
  rw [positions_of]
  refine pairs_in_place _ _ _ fun i j hij => ?_
  rw [negated_of]
  exact float_not_before _ _ _ _ (EReal.neg_le_neg_iff.mpr (h i j hij))

/-- A buffer none of the stretches before the loop writes holds at the loop's entry what the launch left in it. -/
theorem entry_leaves (m : (ℓ : Loc nD τ sig) → Buf (Elt Ideal) ℓ) (c : Dev nD) (r : Ref sig .tc)
    (h : r ∉ hostOps0_W ++ hostOps0_1_W ++ hostOps0_2_W) :
    entryContents preI m c (Proc.devRef .tc r) = launchContents m c (Proc.devRef .tc r) := by
  simp only [List.mem_append, not_or] at h
  obtain ⟨⟨h0, h1⟩, h2⟩ := h
  show afterL preI _ _ = _
  simp only [afterL_cons, afterL_nil]
  rw [after_of_writes_sub _ _ hostOps0_2_writes h2, after_of_writes_sub _ _ hostOps0_1_writes h1, after_of_writes_sub _ _ hostOps0_writes h0]

/-- The buffers after the stretch that sorts. -/
def sorted (m : (ℓ : Loc nD τ sig) → Buf (Elt Ideal) ℓ) (c : Dev nD) : Valuation τ sig (Elt Ideal) :=
  after hostOps0_1 (after hostOps0 (launchContents m c))

/-- The loop's entry is what the last stretch leaves of the sorted buffers. -/
theorem entry_eq (m : (ℓ : Loc nD τ sig) → Buf (Elt Ideal) ℓ) (c : Dev nD) : entryContents preI m c = after hostOps0_2 (sorted m c) := rfl

/-- For coefficients that descend, the loop is entered with the positions in order. -/
theorem entry_positions (m : (ℓ : Loc nD τ sig) → Buf (Elt Ideal) ℓ) (c : Dev nD)
    (h : Falls (lanes (launchContents m c (main_arg2 : DevRef τ sig)))) :
    entryContents preI m c (main_v1 : DevRef τ sig) = order := by
  have e := after_of_writes_sub (r := main_v1) hostOps0_2 (sorted m c) hostOps0_2_writes (by decide +kernel)
  rw [entry_eq, e]
  exact positions_in_order m c h

/-- The sort leaves the coefficients. -/
theorem sorted_coeffs (m : (ℓ : Loc nD τ sig) → Buf (Elt Ideal) ℓ) (c : Dev nD) :
    sorted m c (main_arg2 : DevRef τ sig) = launchContents m c (main_arg2 : DevRef τ sig) :=
  (after_of_writes_sub hostOps0_1 _ hostOps0_1_writes (by decide +kernel)).trans (after_of_writes_sub hostOps0 _ hostOps0_writes (by decide +kernel))

/-- For coefficients that descend, what is taken of the sorted buffers is the coefficients. -/
theorem taken_in_order (m : (ℓ : Loc nD τ sig) → Buf (Elt Ideal) ℓ) (c : Dev nD)
    (h : Falls (lanes (launchContents m c (main_arg2 : DevRef τ sig)))) :
    (Host.gather gather_S768_S768x1_S768_n_0_n_n_0_1_1 (sorted m c (main_arg2 : DevRef τ sig) : FVec Ideal S768 .f32)
        (column (sorted m c (main_v1 : DevRef τ sig))) : FVec Ideal S768 .f32)
      = launchContents m c (main_arg2 : DevRef τ sig) := by
  rw [show sorted m c (main_v1 : DevRef τ sig) = order from positions_in_order m c h, take_in_order _ _ column_order]
  exact sorted_coeffs m c

/-- For coefficients that descend, the loop is entered with the coefficients as taken. -/
theorem entry_taken (m : (ℓ : Loc nD τ sig) → Buf (Elt Ideal) ℓ) (c : Dev nD)
    (h : Falls (lanes (launchContents m c (main_arg2 : DevRef τ sig)))) :
    entryContents preI m c (main_v8 : DevRef τ sig) = launchContents m c (main_arg2 : DevRef τ sig) := by
  rw [entry_eq]
  exact (taken_of (sorted m c)).trans (taken_in_order m c h)

/-- For coefficients that descend, the loop starts from their starting state. -/
theorem entry_carried (m : (ℓ : Loc nD τ sig) → Buf (Elt Ideal) ℓ) (c : Dev nD)
    (h : Falls (lanes (launchContents m c (main_arg2 : DevRef τ sig)))) :
    carried (entryContents preI m c) = start (lanes (launchContents m c (main_arg2 : DevRef τ sig))) := by
  have p := point_of (sorted m c)
  rw [taken_in_order m c h] at p
  have n := nil_of (sorted m c)
  rw [entry_eq]
  exact congr (congr (congrArg Lane.St.mk p) n.1) n.2

end Cert.ReferenceIdeal.Own
-- ==== Proof.RPost.lean ====
module
public import proofs.«01_k».proof.Proof.RPre
public import Idealize.ShloMosaic.Lib.ReduceAll
@[expose] public section

/-! What the reference makes of the loop's point: the mask, the diagonals' matrix, the product. -/

noncomputable section
namespace Cert.ReferenceIdeal.Own
open Cert.ReferenceIdeal Cert.ReferenceIdeal.Gen Cert.ReferenceIdeal.Value Idealize.ShloMosaic Idealize.ShloMosaic.TcCoe Idealize.ShloMosaic.StableHlo Idealize.SL.Sem
open Cert.Lane

/-- The residue of a word by 768, with the divisor's sign. -/
def residueWord (x : BitVec 32) : BitVec 32 :=
  let m := Scalar.select (IntOp.cmpi .eq 768#32 0#32) 1#32 768#32
  let r := IntOp.remsi .host x m
  Scalar.select (IntOp.andi (IntOp.cmpi .ne (IntOp.cmpi .slt r 0#32) (IntOp.cmpi .slt m 0#32)) (IntOp.cmpi .ne r 0#32)) (IntOp.addi r m) r

/-- The residue of a small word. -/
theorem residueWord_ofNat : ∀ n : Fin 1536, residueWord (BitVec.ofNat 32 n) = BitVec.ofNat 32 (n % 768) := by
  decide +kernel

/-- The row update `(i, j)` goes to. -/
def dest (i j : Fin 768) : Fin 768 := ⟨((i : ℕ) + j) % 768, Nat.mod_lt _ (by decide)⟩

/-- A word in range is in range as the program tests it. -/
theorem inside_word : ∀ n : Fin 768, IntOp.andi (IntOp.cmpi .sge (BitVec.ofNat 32 n) 0#32) (IntOp.cmpi .sle (BitVec.ofNat 32 n) 767#32) = 1#1 := by
  decide +kernel

/-- Positions wrapped, one per cell, with a trailing axis of one. -/
def folded (w : IVec S768x768 32) : IVec S768x768x1 32 :=
  shapeCast S768x768x1
    (select (cmpi .slt w (broadcastInDim S768x768 ![] bcast_S_S768x768 (constantI S_ 32 0#32))) (addi w (broadcastInDim S768x768 ![] bcast_S_S768x768 (constantI S_ 32 768#32))) w)
    shapeCasts_S768x768_S768x768x1

/-- Whether each position is inside its row. -/
def inside (w : IVec S768x768 32) : IVec S768x768x1 1 :=
  andi (cmpi .sge (folded w) (broadcastInDim S768x768x1 ![] bcast_S_S768x768x1 (constantI S_ 32 0#32)))
    (cmpi .sle (folded w) (broadcastInDim S768x768x1 ![0, 1, 2] bcast_S1x1x1_S768x768x1_0_1_2 (broadcastInDim S1x1x1 ![2] bcast_S1_S1x1x1_2 (constantI S1 32 767#32))))

/-- The entries taken along the rows at the positions inside them. -/
def alongRows (x : FVec Ideal S768x768 .f32) (w : IVec S768x768 32) : FVec Ideal S768x768 .f32 :=
  select (Host.reduce IntOp.andi (inside w) (constantI S_ 1 1#1) reducesTo_S768x768x1_S768x768_d2 h_S_)
    (Host.gather gather_S768x768_S768x768x1_S768x768_n_1_0_0_1_2_11 x (folded w))
    (broadcastInDim S768x768 ![] bcast_S_S768x768 (constant S_ .f32 0x7FC00000#32))

/-- A position in range, wrapped, is itself. -/
theorem folded_at (w : IVec S768x768 32) (p : Fin 768 → Fin 768 → Fin 768) (h : ∀ i j : Fin 768, w (ix2 i j) = BitVec.ofNat 32 (p i j)) (i j : Fin 768) :
    folded w (ix3 i j (0 : Fin 1)) = BitVec.ofNat 32 (p i j) := by
  unfold folded
  pointwise
  show wrapWord (w (ix2 i j)) = _
  rw [h, wrapWord_ofNat]

/-- A selection whose bit is one. -/
theorem select_one {s : Shape} (b : IVec s 1) (x y : FVec Ideal s .f32) (k : s.Idx) (h : b k = 1#1) : select b x y k = x k := by
  show Scalar.select (b k) (x k) (y k) = x k
  rw [h]
  exact if_pos rfl

/-- Entries taken at positions in range. -/
theorem alongRows_at (x : FVec Ideal S768x768 .f32) (w : IVec S768x768 32) (p : Fin 768 → Fin 768 → Fin 768)
    (h : ∀ i j : Fin 768, w (ix2 i j) = BitVec.ofNat 32 (p i j)) (i j : Fin 768) : alongRows x w (ix2 i j) = x (ix2 i (p i j)) := by
  have f := folded_at w p h
  have a : ∀ k, inside w k = 1#1 := by
    intro k
    obtain ⟨i, j, rfl⟩ : ∃ i j : Fin 768, k = ix3 i j (0 : Fin 1) := ⟨k 0, k 1, by
      funext a
      match a with
      | ⟨0, _⟩ => rfl
      | ⟨1, _⟩ => rfl
      | ⟨2, _⟩ => exact Subsingleton.elim (α := Fin 1) _ _⟩
    show IntOp.andi (IntOp.cmpi .sge (folded w (ix3 i j (0 : Fin 1))) 0#32) (IntOp.cmpi .sle (folded w (ix3 i j (0 : Fin 1))) 767#32) = 1#1
    rw [f]
    exact inside_word (p i j)
  have r := Host.reduce_andi_one (inside w) (constantI S_ 1 1#1) reducesTo_S768x768x1_S768x768_d2 h_S_ (ix2 i j) rfl a
  refine (select_one _ _ _ _ r).trans ?_
  rw [take_along]
  refine congrArg x (congrArg (ix2 i) (Fin.ext ?_))
  show min (folded w (ix3 i j (0 : Fin 1))).toInt.toNat 767 = p i j
  have := (p i j).isLt
  rw [f, word_toInt]
  omega

/-- Where each update goes. -/
def targets (w v : IVec S768x768 32) : IVec S768x768x2 32 :=
  concatenate S768x768x2 2
    [⟨S768x768x1, broadcastInDim S768x768x1 ![0, 1] bcast_S768x768_S768x768x1_0_1
      (select (cmpi .slt w (broadcastInDim S768x768 ![] bcast_S_S768x768 (constantI S_ 32 0#32))) (addi w (broadcastInDim S768x768 ![] bcast_S_S768x768 (constantI S_ 32 768#32))) w)⟩,
     ⟨S768x768x1, broadcastInDim S768x768x1 ![0, 1] bcast_S768x768_S768x768x1_0_1
      (select (cmpi .slt v (broadcastInDim S768x768 ![] bcast_S_S768x768 (constantI S_ 32 0#32))) (addi v (broadcastInDim S768x768 ![] bcast_S_S768x768 (constantI S_ 32 768#32))) v)⟩]
    concatenates_S768x768x1_S768x768x1_S768x768x2_d2

/-- An update's row. -/
theorem targets_row (w v : IVec S768x768 32) (p : Fin 768 → Fin 768 → Fin 768) (h : ∀ i j : Fin 768, w (ix2 i j) = BitVec.ofNat 32 (p i j)) (i j : Fin 768) :
    (targets w v (ix3 i j (0 : Fin 2))).toInt = (p i j : ℕ) := by
  have e : targets w v (ix3 i j (0 : Fin 2)) = wrapWord (w (ix2 i j)) := by
    unfold targets
    pointwise
    rfl
  rw [e, h, wrapWord_ofNat, word_toInt]

/-- An update's column. -/
theorem targets_col (w v : IVec S768x768 32) (p : Fin 768 → Fin 768 → Fin 768) (h : ∀ i j : Fin 768, v (ix2 i j) = BitVec.ofNat 32 (p i j)) (i j : Fin 768) :
    (targets w v (ix3 i j (1 : Fin 2))).toInt = (p i j : ℕ) := by
  have e : targets w v (ix3 i j (1 : Fin 2)) = wrapWord (v (ix2 i j)) := by
    unfold targets
    pointwise
    rfl
  rw [e, h, wrapWord_ofNat, word_toInt]

section Stretches
variable (V : Valuation τ sig (Elt Ideal))

/-- The difference the mask clips. -/
theorem diff_of (j : Fin 768) :
    lanes (after hostOps0_3 V (main_v21 : DevRef τ sig)) j = score (lanes (V (main_v8 : DevRef τ sig))) j - lanes (V (main_v18_1 : DevRef τ sig)) j := by
  show after hostOps0_3 V (main_v21 : DevRef τ sig) (ix1 j) = _
  after_results
  exact congrArg (fun a : EReal => a - lanes (V (main_v18_1 : DevRef τ sig)) j) (divided_at _ j)

/-- The clip's lower end. -/
theorem low_of : after hostOps0_3 V (main_cst_6 : DevRef τ sig) = (constant (F := Ideal) S_ .f32 0x00000000#32 : FVec Ideal S_ .f32) := by
  after_results

/-- The clip's upper end. -/
theorem high_of : after hostOps0_3 V (main_cst_7 : DevRef τ sig) = (constant (F := Ideal) S_ .f32 0x3F800000#32 : FVec Ideal S_ .f32) := by
  after_results

/-- The clip. -/
theorem clip_of (hl : V (main_cst_6 : DevRef τ sig) = (constant (F := Ideal) S_ .f32 0x00000000#32 : FVec Ideal S_ .f32))
    (hh : V (main_cst_7 : DevRef τ sig) = (constant (F := Ideal) S_ .f32 0x3F800000#32 : FVec Ideal S_ .f32)) (j : Fin 768) :
    lanes (after hostOps0_4 V (main_v22 : DevRef τ sig)) j = min 1 (max 0 (lanes (V (main_v21 : DevRef τ sig)) j)) := by
  show after hostOps0_4 V (main_v22 : DevRef τ sig) (ix1 j) = _
  after_results
  rw [hl, hh]
  show min (Ideal.ofBits .f32 0x3F800000#32) (max (Ideal.ofBits .f32 0x00000000#32) _) = _
  rw [Ideal.ofBits_zero .f32, show Ideal.ofBits .f32 0x3F800000#32 = (1 : EReal) from by pointwise]
  rfl

/-- The second sort's positions, when what it sorts is in order. -/
theorem places_of (h : V (main_v1 : DevRef τ sig) = order) : after hostOps0_5 V (main_v23 : DevRef τ sig) = order := by
  after_results
  rw [h]
  exact pairs_in_place _ _ _ fun i j hij => int_not_before i j hij _ _

/-- The mask taken at the places. -/
theorem placed_of (h : V (main_v23 : DevRef τ sig) = order) : after hostOps0_6 V (main_v30 : DevRef τ sig) = V (main_v22 : DevRef τ sig) := by
  after_results
  rw [h]
  exact take_in_order _ _ column_order

/-- The positions. -/
theorem along_of : after hostOps0_6 V (main_v31 : DevRef τ sig) = order := by
  after_results

/-- The divisor of the residues. -/
theorem modulus_of : after hostOps0_6 V (main_c_10 : DevRef τ sig) = (constantI S_ 32 768#32 : IVec S_ 32) := by
  after_results

/-- The sum of the row and the column. -/
theorem sum_of (i j : Fin 768) : (after hostOps0_6 V (main_v37 : DevRef τ sig) : IVec S768x768 32) (ix2 i j) = BitVec.ofNat 32 ((i : ℕ) + j) := by
  after_results
  pointwise
  show BitVec.ofNat 32 j + BitVec.ofNat 32 i = _
  rw [← BitVec.ofNat_add, Nat.add_comm]

/-- The residue of the sum. -/
theorem residue_of (hm : V (main_c_10 : DevRef τ sig) = (constantI S_ 32 768#32 : IVec S_ 32))
    (hs : ∀ i j : Fin 768, (V (main_v37 : DevRef τ sig) : IVec S768x768 32) (ix2 i j) = BitVec.ofNat 32 ((i : ℕ) + j)) (i j : Fin 768) :
    (after hostOps0_7 V (main_v38 : DevRef τ sig) : IVec S768x768 32) (ix2 i j) = BitVec.ofNat 32 (dest i j) := by
  after_results
  rw [hm]
  show residueWord ((V (main_v37 : DevRef τ sig) : IVec S768x768 32) (ix2 i j)) = _
  rw [hs]
  exact residueWord_ofNat ⟨(i : ℕ) + j, by have := i.isLt; have := j.isLt; omega⟩

/-- The columns. -/
theorem columns_of (h : V (main_v31 : DevRef τ sig) = order) (i j : Fin 768) :
    (after hostOps0_8 V (main_v40 : DevRef τ sig) : IVec S768x768 32) (ix2 i j) = BitVec.ofNat 32 j := by
  after_results
  rw [h]
  pointwise

/-- The mask as a column. -/
theorem upright_of (i : Fin 768) :
    (after hostOps0_8 V (main_v41 : DevRef τ sig) : FVec Ideal S768x1 .f32) (ix2 i (0 : Fin 1)) = lanes (V (main_v30 : DevRef τ sig)) i := by
  after_results
  pointwise
  rfl

set_option maxRecDepth 8000 in
/-- The entries taken along the rows. -/
theorem entries_of (h : ∀ i j : Fin 768, (V (main_v38 : DevRef τ sig) : IVec S768x768 32) (ix2 i j) = BitVec.ofNat 32 (dest i j)) (i j : Fin 768) :
    (after hostOps0_9 V (main_v42 : DevRef τ sig) : FVec Ideal S768x768 .f32) (ix2 i j) = (V (main_arg1 : DevRef τ sig) : FVec Ideal S768x768 .f32) (ix2 i (dest i j)) := by
  have e : after hostOps0_9 V (main_v42 : DevRef τ sig) = alongRows (V (main_arg1 : DevRef τ sig)) (V (main_v38 : DevRef τ sig)) := by
    after_results
    simp only [TRef.ofBuf, TRef.toBuf, cast_cast, cast_eq]
    unfold alongRows inside folded
    rfl
  rw [e]
  exact alongRows_at _ _ dest h i j

/-- The product. -/
theorem product_of (x : FVec Ideal S8192x768 .f32) (hx : V (main_arg0 : DevRef τ sig) = x) (u : FVec Ideal S768x1 .f32) (hu : V (main_v41 : DevRef τ sig) = u)
    (e : FVec Ideal S768x768 .f32) (he : V (main_v42 : DevRef τ sig) = e)
    (hd : ∀ i j : Fin 768, (V (main_v38 : DevRef τ sig) : IVec S768x768 32) (ix2 i j) = BitVec.ofNat 32 (dest i j))
    (hc : ∀ i j : Fin 768, (V (main_v40 : DevRef τ sig) : IVec S768x768 32) (ix2 i j) = BitVec.ofNat 32 j)
    (y : FVec Ideal S8192x768 .f32) (hy : after hostOps0_10 V (main_v61 : DevRef τ sig) = y) (n : Fin 8192) (r : Fin 768) :
    y (ix2 n r)
      = ∑ c : Fin 768, x (ix2 n c) * (u (ix2 (diag r c) (0 : Fin 1)) * e (ix2 (diag r c) c)) := by
  rw [← hy]
  after_results
  rw [hx, hu, he]
  pointwise
  refine Finset.sum_congr rfl fun c _ => congrArg (x (ix2 n c) * ·) ?_
  refine (spread_at _ _ (targets (V (main_v38 : DevRef τ sig)) (V (main_v40 : DevRef τ sig))) (fun _ => Ideal.ofBits_zero .f32)
    (targets_row _ _ dest hd) (targets_col _ _ (fun _ j => j) hc) r c).trans ?_
  pointwise

end Stretches

end Cert.ReferenceIdeal.Own
-- ==== Proof.RValue.lean ====
module
public import proofs.«01_k».proof.Proof.RPost
public import Idealize.ShloMosaic.Lib.StableHlo.RunRead
@[expose] public section

/-! The reference's result at an entry, and what its run leaves of the arguments. -/

noncomputable section
namespace Cert.ReferenceIdeal.Own
open Cert.ReferenceIdeal Cert.ReferenceIdeal.Gen Cert.ReferenceIdeal.Value Idealize.ShloMosaic Idealize.ShloMosaic.TcCoe Idealize.ShloMosaic.StableHlo Idealize.SL.Sem
open Cert.Lane

/-- What the third stretch writes, in order. -/
abbrev wr3 : List (Ref sig .tc) := [main_cst_5, main_v19, main_v20, main_v21, main_cst_6, main_cst_7]

/-- What the fourth stretch writes, in order. -/
abbrev wr4 : List (Ref sig .tc) := [main_call5_v0, main_call5_v1, main_call5_v2, main_call5_v3, main_call5_v4, main_v22]

/-- What the fifth stretch writes, in order. -/
abbrev wr5 : List (Ref sig .tc) := [main_call6_v0, main_call6_v1_0, main_v23]

/-- What the sixth stretch writes, in order. -/
abbrev wr6 : List (Ref sig .tc) := [main_c_8, main_v24, main_v25, main_c_9, main_v26, main_v27, main_v28, main_v29, main_v30, main_v31, main_v32, main_v33, main_v34, main_v35, main_v36, main_v37, main_c_10]

/-- What the seventh stretch writes, in order. -/
abbrev wr7 : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v38]

/-- What the eighth stretch writes, in order. -/
abbrev wr8 : List (Ref sig .tc) := [main_v39, main_v40, main_v41]

/-- What the ninth stretch writes, in order. -/
abbrev wr9 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v42]

/-- What the tenth stretch writes, in order. -/
abbrev wr10 : List (Ref sig .tc) := [main_v43, main_v44, main_cst_11, main_v45, main_c_12, main_v46, main_v47, main_c_13, main_v48, main_v49, main_v50, main_c_14, main_v51, main_v52, main_c_15, main_v53, main_v54, main_v55, main_v56, main_v57, main_v58, main_v59, main_v60, main_v61]

/-- A stretch leaves what it does not write. -/
theorem stays {ops : List (HloOp τ sig (Elt Ideal))} (W : List (Ref sig .tc)) (V : Valuation τ sig (Elt Ideal)) {r : Ref sig .tc}
    (hW : ops.map HloOp.writes = W.map fun w => {Proc.devRef (τ := τ) .tc w}) (hr : r ∉ W) :
    after ops V (r : DevRef τ sig) = V (r : DevRef τ sig) :=
  after_unwritten W hW hr V

section Chain
variable (V : Valuation τ sig (Elt Ideal))

/-- The contents after the first stretch that follows the loop. -/
def then3 : Valuation τ sig (Elt Ideal) := after hostOps0_3 V

/-- The contents after the next stretch. -/
def then4 : Valuation τ sig (Elt Ideal) := after hostOps0_4 (then3 V)

/-- The contents after the next stretch. -/
def then5 : Valuation τ sig (Elt Ideal) := after hostOps0_5 (then4 V)

/-- The contents after the next stretch. -/
def then6 : Valuation τ sig (Elt Ideal) := after hostOps0_6 (then5 V)

/-- The contents after the next stretch. -/
def then7 : Valuation τ sig (Elt Ideal) := after hostOps0_7 (then6 V)

/-- The contents after the next stretch. -/
def then8 : Valuation τ sig (Elt Ideal) := after hostOps0_8 (then7 V)

/-- The contents after the next stretch. -/
def then9 : Valuation τ sig (Elt Ideal) := after hostOps0_9 (then8 V)

/-- The contents after the next stretch. -/
def then10 : Valuation τ sig (Elt Ideal) := after hostOps0_10 (then9 V)

/-- A buffer this stretch does not write. -/
theorem stays3 (r : Ref sig .tc) (h : r ∉ wr3) : then3 V (r : DevRef τ sig) = V (r : DevRef τ sig) :=
  stays wr3 V rfl h

/-- A buffer this stretch does not write. -/
theorem stays4 (r : Ref sig .tc) (h : r ∉ wr4) : then4 V (r : DevRef τ sig) = (then3 V) (r : DevRef τ sig) :=
  stays wr4 (then3 V) rfl h

/-- A buffer this stretch does not write. -/
theorem stays5 (r : Ref sig .tc) (h : r ∉ wr5) : then5 V (r : DevRef τ sig) = (then4 V) (r : DevRef τ sig) :=
  stays wr5 (then4 V) rfl h

/-- A buffer this stretch does not write. -/
theorem stays6 (r : Ref sig .tc) (h : r ∉ wr6) : then6 V (r : DevRef τ sig) = (then5 V) (r : DevRef τ sig) :=
  stays wr6 (then5 V) rfl h

/-- A buffer this stretch does not write. -/
theorem stays7 (r : Ref sig .tc) (h : r ∉ wr7) : then7 V (r : DevRef τ sig) = (then6 V) (r : DevRef τ sig) :=
  stays wr7 (then6 V) rfl h

/-- A buffer this stretch does not write. -/
theorem stays8 (r : Ref sig .tc) (h : r ∉ wr8) : then8 V (r : DevRef τ sig) = (then7 V) (r : DevRef τ sig) :=
  stays wr8 (then7 V) rfl h

/-- A buffer this stretch does not write. -/
theorem stays9 (r : Ref sig .tc) (h : r ∉ wr9) : then9 V (r : DevRef τ sig) = (then8 V) (r : DevRef τ sig) :=
  stays wr9 (then8 V) rfl h

/-- A buffer this stretch does not write. -/
theorem stays10 (r : Ref sig .tc) (h : r ∉ wr10) : then10 V (r : DevRef τ sig) = (then9 V) (r : DevRef τ sig) :=
  stays wr10 (then9 V) rfl h

/-- None of the stretches writes `r`. -/
def Spared (r : Ref sig .tc) : Prop :=
  r ∉ wr3 ∧ r ∉ wr4 ∧ r ∉ wr5 ∧ r ∉ wr6 ∧ r ∉ wr7 ∧ r ∉ wr8 ∧ r ∉ wr9 ∧ r ∉ wr10

/-- A buffer none of them writes, before the last two. -/
theorem spared8 {r : Ref sig .tc} (h : Spared r) : then8 V (r : DevRef τ sig) = V (r : DevRef τ sig) := by
  obtain ⟨h3, h4, h5, h6, h7, h8, -, -⟩ := h
  rw [stays8 V r h8, stays7 V r h7, stays6 V r h6, stays5 V r h5, stays4 V r h4, stays3 V r h3]

/-- A buffer none of them writes, at the end. -/
theorem spared10 {r : Ref sig .tc} (h : Spared r) : then10 V (r : DevRef τ sig) = V (r : DevRef τ sig) := by
  rw [stays10 V r h.2.2.2.2.2.2.2, stays9 V r h.2.2.2.2.2.2.1, spared8 V h]

/-- The first argument is spared. -/
theorem spared_x : Spared main_arg0 := by unfold Spared; decide +kernel

/-- The second argument is spared. -/
theorem spared_V : Spared main_arg1 := by unfold Spared; decide +kernel

/-- The third argument is spared. -/
theorem spared_alpha : Spared main_arg2 := by unfold Spared; decide +kernel

/-- The mask, from the scores and the loop's point. -/
theorem mask_then (j : Fin 768) : lanes (then4 V (main_v22 : DevRef τ sig)) j
    = min 1 (max 0 (score (lanes (V (main_v8 : DevRef τ sig))) j - lanes (V (main_v18_1 : DevRef τ sig)) j)) := by
  have h := clip_of (then3 V) (low_of V) (high_of V) j
  have d := diff_of V j
  exact h.trans (congrArg (fun a => min 1 (max 0 a)) d)

/-- The mask taken at the places in order is the mask. -/
theorem placed_then (h : V (main_v1 : DevRef τ sig) = order) : then6 V (main_v30 : DevRef τ sig) = then4 V (main_v22 : DevRef τ sig) := by
  have h4 : then4 V (main_v1 : DevRef τ sig) = order := by
    rw [stays4 V main_v1 (by decide +kernel), stays3 V main_v1 (by decide +kernel), h]
  have p := placed_of (then5 V) (places_of (then4 V) h4)
  have s := stays5 V main_v22 (by decide +kernel)
  exact p.trans s

/-- The destinations' rows. -/
theorem residue_then (i j : Fin 768) : (then7 V (main_v38 : DevRef τ sig) : IVec S768x768 32) (ix2 i j) = BitVec.ofNat 32 (dest i j) :=
  residue_of (then6 V) (modulus_of (then5 V)) (sum_of (then5 V)) i j

/-- The destinations' columns. -/
theorem columns_then (i j : Fin 768) : (then8 V (main_v40 : DevRef τ sig) : IVec S768x768 32) (ix2 i j) = BitVec.ofNat 32 j := by
  have s := stays7 V main_v31 (by decide +kernel)
  exact columns_of (then7 V) (s.trans (along_of (then5 V))) i j

/-- The mask as a column. -/
theorem upright_then (h : V (main_v1 : DevRef τ sig) = order) (i : Fin 768) :
    (then8 V (main_v41 : DevRef τ sig) : FVec Ideal S768x1 .f32) (ix2 i (0 : Fin 1))
      = min 1 (max 0 (score (lanes (V (main_v8 : DevRef τ sig))) i - lanes (V (main_v18_1 : DevRef τ sig)) i)) := by
  have s := (stays7 V main_v30 (by decide +kernel)).trans (placed_then V h)
  have u := upright_of (then7 V) i
  exact (u.trans (congrArg (fun y => lanes y i) s)).trans (mask_then V i)

/-- The diagonals' entries. -/
theorem entries_then (i j : Fin 768) : (then9 V (main_v42 : DevRef τ sig) : FVec Ideal S768x768 .f32) (ix2 i j)
    = (V (main_arg1 : DevRef τ sig) : FVec Ideal S768x768 .f32) (ix2 i (dest i j)) := by
  have s := stays8 V main_v38 (by decide +kernel)
  have e := entries_of (then8 V) (fun i j => (congrFun s (ix2 i j)).trans (residue_then V i j)) i j
  have a := spared8 V spared_V
  exact e.trans (congrFun a (ix2 i (dest i j)))

/-- The diagonal of a cell comes back to the cell's row at the cell's column. -/
theorem dest_diag (r c : Fin 768) : dest (diag r c) c = r := by
  have hr := r.isLt
  have hc := c.isLt
  refine Fin.ext ?_
  show ((r.val + 768 - c.val) % 768 + c.val) % 768 = r.val
  omega

/-- The result, from the contents the loop ends with. -/
theorem product_then (h : V (main_v1 : DevRef τ sig) = order) (x : FVec Ideal S8192x768 .f32) (hx : V (main_arg0 : DevRef τ sig) = x)
    (W : FVec Ideal S768x768 .f32) (hW : V (main_arg1 : DevRef τ sig) = W)
    (y : FVec Ideal S8192x768 .f32) (hy : then10 V (main_v61 : DevRef τ sig) = y) (n : Fin 8192) (r : Fin 768) :
    y (ix2 n r) = ∑ c : Fin 768, x (ix2 n c) * (W (ix2 (diag r c) r)
      * min 1 (max 0 (score (lanes (V (main_v8 : DevRef τ sig))) (diag r c) - lanes (V (main_v18_1 : DevRef τ sig)) (diag r c)))) := by
  have h9 : then9 V (main_arg0 : DevRef τ sig) = x := by
    rw [stays9 V main_arg0 spared_x.2.2.2.2.2.2.1, spared8 V spared_x, hx]
  have s8 := stays8 V main_v38 (by decide +kernel)
  have s9 := stays9 V main_v38 (by decide +kernel)
  have t9 := stays9 V main_v40 (by decide +kernel)
  have u9 := stays9 V main_v41 (by decide +kernel)
  have p := product_of (then9 V) x h9 _ rfl _ rfl
    (fun i j => (congrFun s9 (ix2 i j)).trans ((congrFun s8 (ix2 i j)).trans (residue_then V i j)))
    (fun i j => (congrFun t9 (ix2 i j)).trans (columns_then V i j)) y hy n r
  refine p.trans (Finset.sum_congr rfl fun c _ => congrArg (x (ix2 n c) * ·) ?_)
  have e := entries_then V (diag r c) c
  rw [dest_diag, hW] at e
  have u := (congrFun u9 (ix2 (diag r c) (0 : Fin 1))).trans (upright_then V h (diag r c))
  exact (congr (congrArg (fun a b : EReal => a * b) u) e).trans (mul_comm _ _)

end Chain

section Run
variable (m : (ℓ : Loc nD τ sig) → Buf (Elt Ideal) ℓ) (c : Dev nD)

/-- What the run ends with is the stretches after the loop, from where the loop ends. -/
theorem final_eq : finalContents condOps preI bodyI postI 50 m c = then10 (ended m c) := rfl

/-- A buffer no part of the program writes. -/
theorem launch_kept (r : Ref sig .tc) (h : Spared r) (hp : r ∉ hostOps0_W ++ hostOps0_1_W ++ hostOps0_2_W) (ht : r ∉ tripWrites) :
    finalContents condOps preI bodyI postI 50 m c (r : DevRef τ sig) = m ((c.tc : Thread nD τ).loc r) := by
  rw [final_eq, spared10 _ h, ended_leaves m c r ht, entry_leaves m c r hp]

/-- The first argument is kept. -/
theorem x_kept : finalContents condOps preI bodyI postI 50 m c (main_arg0 : DevRef τ sig) = m ((c.tc : Thread nD τ).loc main_arg0) :=
  launch_kept m c main_arg0 spared_x (by decide +kernel) (by decide +kernel)

/-- The second argument is kept. -/
theorem V_kept : finalContents condOps preI bodyI postI 50 m c (main_arg1 : DevRef τ sig) = m ((c.tc : Thread nD τ).loc main_arg1) :=
  launch_kept m c main_arg1 spared_V (by decide +kernel) (by decide +kernel)

/-- The third argument is kept. -/
theorem alpha_kept : finalContents condOps preI bodyI postI 50 m c (main_arg2 : DevRef τ sig) = m ((c.tc : Thread nD τ).loc main_arg2) :=
  launch_kept m c main_arg2 spared_alpha (by decide +kernel) (by decide +kernel)

/-- For coefficients that descend, the loop ends with the positions in order. -/
theorem ended_positions (h : Falls (lanes (launchContents m c (main_arg2 : DevRef τ sig)))) :
    ended m c (main_v1 : DevRef τ sig) = order :=
  (ended_leaves m c main_v1 (by decide +kernel)).trans (entry_positions m c h)

/-- For coefficients that descend, the loop ends with the coefficients taken in their order. -/
theorem ended_taken (h : Falls (lanes (launchContents m c (main_arg2 : DevRef τ sig)))) :
    ended m c (main_v8 : DevRef τ sig) = launchContents m c (main_arg2 : DevRef τ sig) :=
  (ended_leaves m c main_v8 (by decide +kernel)).trans (entry_taken m c h)

/-- The loop ends with the first argument. -/
theorem ended_x : ended m c (main_arg0 : DevRef τ sig) = launchContents m c (main_arg0 : DevRef τ sig) :=
  (ended_leaves m c main_arg0 (by decide +kernel)).trans (entry_leaves m c main_arg0 (by decide +kernel))

/-- The loop ends with the second argument. -/
theorem ended_V : ended m c (main_arg1 : DevRef τ sig) = launchContents m c (main_arg1 : DevRef τ sig) :=
  (ended_leaves m c main_arg1 (by decide +kernel)).trans (entry_leaves m c main_arg1 (by decide +kernel))

/-- For coefficients that descend, the loop ends with the point fifty steps from their start. -/
theorem ended_steps (h : Falls (lanes (launchContents m c (main_arg2 : DevRef τ sig)))) :
    lanes (ended m c (main_v18_1 : DevRef τ sig)) = (step^[50] (start (lanes (launchContents m c (main_arg2 : DevRef τ sig))))).v := by
  rw [ended_point, entry_carried m c h]

/-- For coefficients that descend, the reference's result at an entry, over the launch's contents. -/
theorem launch_result (h : Falls (lanes (launchContents m c (main_arg2 : DevRef τ sig))))
    (x : FVec Ideal S8192x768 .f32) (hx : launchContents m c (main_arg0 : DevRef τ sig) = x)
    (W : FVec Ideal S768x768 .f32) (hW : launchContents m c (main_arg1 : DevRef τ sig) = W)
    (y : FVec Ideal S8192x768 .f32) (hy : then10 (ended m c) (main_v61 : DevRef τ sig) = y)
    (n : Fin 8192) (r : Fin 768) :
    y (ix2 n r) = out (fun n k => x (ix2 n k)) (fun n k => W (ix2 n k)) (lanes (launchContents m c (main_arg2 : DevRef τ sig))) n r := by
  have p := product_then (ended m c) (ended_positions m c h) x ((ended_x m c).trans hx) W ((ended_V m c).trans hW) y hy n r
  rw [ended_taken m c h, ended_steps m c h] at p
  unfold out weight mask
  exact p

/-- For coefficients that descend, the reference's result at an entry. -/
theorem result_at (a : FVec Ideal S768 .f32) (ha : launchContents m c (main_arg2 : DevRef τ sig) = a) (h : Falls (lanes a))
    (x : FVec Ideal S8192x768 .f32) (hx : launchContents m c (main_arg0 : DevRef τ sig) = x)
    (W : FVec Ideal S768x768 .f32) (hW : launchContents m c (main_arg1 : DevRef τ sig) = W)
    (y : FVec Ideal S8192x768 .f32) (hy : finalContents condOps preI bodyI postI 50 m c (main_v61 : DevRef τ sig) = y)
    (n : Fin 8192) (r : Fin 768) :
    y (ix2 n r) = out (fun n k => x (ix2 n k)) (fun n k => W (ix2 n k)) (lanes a) n r := by
  subst ha
  rw [final_eq] at hy
  exact launch_result m c h x hx W hW y hy n r

end Run

end Cert.ReferenceIdeal.Own
-- ==== Proof.Frames.lean ====
module
public import proofs.«01_k».proof.Defs
public import proofs.«01_k».proof.Proof.RValue
@[expose] public section

/-! The reference's frame: its run keeps the arguments, and it declares no semaphore. -/

noncomputable section
namespace Cert.ReferenceIdeal.Own
open Cert.ReferenceIdeal Cert.ReferenceIdeal.Gen Cert.ReferenceIdeal.Value Idealize.ShloMosaic Idealize.ShloMosaic.StableHlo Idealize.SL.Sem

/-- The reference runs; its result is what the stretches leave, its arguments are kept, its counters are at zero. -/
theorem run_kept (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_v61) = finalContents condOps preI bodyI postI 50 m c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h =>
    ⟨fun c => ⟨h c main_v61 rfl, (h c main_arg0 rfl).trans (x_kept m c), (h c main_arg1 rfl).trans (V_kept m c), (h c main_arg2 rfl).trans (alpha_kept m c)⟩,
      sem_eq_zero_of_no_sems (by decide) r.2⟩) (run_fold m ρ)

/-- The reference's frame. -/
theorem frame : Cert.quiescent_ReferenceIdeal := fun m ρ _ =>
  (θ_run defs _ _).mono (fun _ h => ⟨fun c => (h.1 c).2, h.2⟩) (run_kept m ρ)

end Cert.ReferenceIdeal.Own
-- ==== Proof.Descends.lean ====
module
public import proofs.«01_k».proof.Proof.RValue
public import proofs.«01_k».proof.Proof.Gen.Pre_alpha_descends
public import Idealize.ShloMosaic.Lib.ReduceAll
public import Idealize.ShloMosaic.Lib.Pointwise
@[expose] public section

/-! What the precondition says of the coefficients. -/

noncomputable section
namespace Cert.Pre_alpha_descends.Own
open Cert.Pre_alpha_descends Idealize.ShloMosaic Idealize.SL.Sem Cert.Lane Cert.ReferenceIdeal.Own

/-- A comparison that reads one holds. -/
theorem le_of_bit (a b : EReal) (h : FloatOps.cmpf (F := Ideal) (φ := .f32) .ole a b = 1#1) : a ≤ b := by
  by_contra n
  have e : FloatOps.cmpf (F := Ideal) (φ := .f32) .ole a b = 0#1 := congrArg BitVec.ofBool (decide_eq_false n)
  rw [e] at h
  exact absurd h (by decide)

/-- The precondition: each coefficient is at most the one before it. -/
theorem neighbours (x : FVec Ideal S8192x768 .f32) (W : FVec Ideal S768x768 .f32) (a : FVec Ideal S768 .f32)
    (h : (Cert.Pre_alpha_descends.fn x W a) = fun _ => 1#1) (k : Fin 767) :
    lanes a ⟨k.val + 1, by omega⟩ ≤ lanes a ⟨k.val, by omega⟩ := by
  have h0 := congrFun h (fun d => d.elim0)
  dsimp only [fn] at h0
  haveI : Subsingleton S_.Idx := ⟨fun _ _ => funext fun d => d.elim0⟩
  have hk := Host.reduce_andi_all _ _ _ _ _ h0 (ix1 k)
  refine le_of_bit _ _ ?_
  rw [← hk]
  show _ = FloatOps.cmpf .ole _ _
  congr 1
  · unfold lanes
    pointwise
    exact congrArg (fun j => a (ix1 j)) (Fin.ext (Nat.add_comm _ _))
  · unfold lanes
    pointwise

/-- The precondition: the coefficients descend. -/
theorem falls (x : FVec Ideal S8192x768 .f32) (W : FVec Ideal S768x768 .f32) (a : FVec Ideal S768 .f32)
    (h : (Cert.Pre_alpha_descends.fn x W a) = fun _ => 1#1) : Falls (lanes a) := by
  intro i j hij
  have key : ∀ d (hd : i.val + d < 768), lanes a ⟨i.val + d, hd⟩ ≤ lanes a i := by
    intro d
    induction d with
    | zero => intro _; exact le_refl _
    | succ d ih =>
      intro hd
      exact (neighbours x W a h ⟨i.val + d, by omega⟩).trans (ih (by omega))
  have hv : i.val < j.val := hij
  have e : j = ⟨i.val + (j.val - i.val), by have := j.isLt; omega⟩ := Fin.ext (by show j.val = i.val + (j.val - i.val); omega)
  rw [e]
  exact key _ _

end Cert.Pre_alpha_descends.Own
-- ==== Proof.Same.lean ====
module
public import proofs.«01_k».proof.Defs
public import proofs.«01_k».proof.Proof.KValue
public import proofs.«01_k».proof.Proof.Frames
public import proofs.«01_k».proof.Proof.Descends
@[expose] public section

/-! The two results are one. -/

noncomputable section
namespace Cert.Same
open Idealize.ShloMosaic Idealize.ShloMosaic.TcCoe Idealize.SL.Sem Cert.Lane Cert.ReferenceIdeal.Own

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- From equal arguments whose coefficients descend, the reference ends with the kernel's result. -/
theorem results (c : Dev KernelIdeal.nD)
    (x : FVec Ideal ReferenceIdeal.S8192x768 .f32) (hx : m ((c.tc : Thread KernelIdeal.nD KernelIdeal.τ).loc KernelIdeal.main_arg0) = x)
    (W : FVec Ideal ReferenceIdeal.S768x768 .f32) (hW : m ((c.tc : Thread KernelIdeal.nD KernelIdeal.τ).loc KernelIdeal.main_arg1) = W)
    (a : FVec Ideal ReferenceIdeal.S768 .f32) (ha : m ((c.tc : Thread KernelIdeal.nD KernelIdeal.τ).loc KernelIdeal.main_arg2) = a)
    (hx' : m' ((c.tc : Thread ReferenceIdeal.nD ReferenceIdeal.τ).loc ReferenceIdeal.main_arg0) = x)
    (hW' : m' ((c.tc : Thread ReferenceIdeal.nD ReferenceIdeal.τ).loc ReferenceIdeal.main_arg1) = W)
    (ha' : m' ((c.tc : Thread ReferenceIdeal.nD ReferenceIdeal.τ).loc ReferenceIdeal.main_arg2) = a)
    (h : Falls (lanes a))
    (y : FVec Ideal ReferenceIdeal.S8192x768 .f32)
    (hy : StableHlo.finalContents ReferenceIdeal.Value.condOps ReferenceIdeal.Value.preI ReferenceIdeal.Value.bodyI ReferenceIdeal.Value.postI 50 m' c
      (Proc.devRef .tc ReferenceIdeal.main_v61) = y) :
    y = KernelIdeal.Value.G3 m c := by
  funext i
  obtain ⟨n, r, rfl⟩ : ∃ (n : Fin 8192) (r : Fin 768), i = ix2 n r := ⟨i 0, i 1, by
    funext d
    match d with
    | ⟨0, _⟩ => rfl
    | ⟨1, _⟩ => rfl⟩
  have k := KernelIdeal.Own.result_at m c n r
  have q := ReferenceIdeal.Own.result_at m' c a ha' h x hx' W hW' y hy n r
  subst hx hW ha
  exact q.trans k.symm

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_alpha_descends
public import proofs.«01_k».proof.Proof.Same
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The one constant the idealized kernel names is the kernel's, up to rounding. -/
theorem preserves : Cert.preserves_Kernel_KernelIdeal :=
  IdealRules.named_const.statement Cert.KernelIdeal.κ "inv_l" .f32 0x42C80000#32 ((536870912 / 5368709 : ℝ) : EReal) rfl

/-- For coefficients that descend, the idealized kernel and the idealized reference end with one result. -/
theorem algebraic : Cert.algebraic_KernelIdeal_ReferenceIdeal_pre_alpha_descends := fun m g m' g' hp ha =>
  ⟨fun c => Cert.KernelIdeal.Value.G3 m c, Cert.KernelIdeal.Value.run m g,
    (θ_run Cert.ReferenceIdeal.defs _ _).mono (fun _ h c =>
      ⟨(h.1 c).1.trans (Cert.Same.results m m' c _ rfl _ rfl _ rfl (ha c).1 (ha c).2.1 (ha c).2.2 (Cert.Pre_alpha_descends.Own.falls _ _ _ (hp c)) _ rfl),
        (h.1 c).2⟩)
      (Cert.ReferenceIdeal.Own.run_kept m' g')⟩

/-- The claims together, after the programs' facts. -/
theorem claim : Cert.Claim :=
  ⟨Cert.Kernel.Gen.facts, Cert.KernelIdeal.Gen.facts, Cert.ReferenceIdeal.Gen.facts, Cert.Pre_alpha_descends.Gen.facts,
    frame_kernel, frame_ideal, fun m g _ => frame_ideal m g trivial,
    Cert.ReferenceIdeal.Own.frame, fun m g _ => Cert.ReferenceIdeal.Own.frame m g trivial, preserves, algebraic⟩

end Cert.Proof

end
